-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 2, 64]⟩ ⟨4, ![2, 4096, 2, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 2, 64]⟩ ⟨4, ![2, 4096, 2, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v110) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x2x64 : Shape := ⟨4, ![2, 128, 2, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x2x64 : S_.BroadcastsInDim S2x128x2x64 (![] : Fin 0 → Fin S2x128x2x64.rank)

variable [Facts]

def fn {F : FTy → Type} [FloatOps F] (main_arg0 : FVec F S2x128x512 .bf16) (main_arg1 : FVec F S512x512 .bf16) (main_arg2 : FVec F S2x128x2x64 .bf16) (main_arg3 : FVec F S2x128x2x64 .bf16) (main_arg4 : FVec F S512x512 .bf16) : IVec S2x128x512 1 × IVec S512x512 1 × IVec S2x128x2x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x512 .bf16 := Host.absf main_arg1
  let main_cst_0 : FVec F S_ .bf16 := constant S_ .bf16 0x7F80#16
  let main_v4 : FVec F S512x512 .bf16 := broadcastInDim S512x512 ![] bcast_S_S512x512 main_cst_0
  let main_v5 : IVec S512x512 1 := cmpf .olt main_v3 main_v4
  let main_v6 : FVec F S2x128x2x64 .bf16 := Host.absf main_arg2
  let main_cst_1 : FVec F S_ .bf16 := constant S_ .bf16 0x7F80#16
  let main_v7 : FVec F S2x128x2x64 .bf16 := broadcastInDim S2x128x2x64 ![] bcast_S_S2x128x2x64 main_cst_1
  let main_v8 : IVec S2x128x2x64 1 := cmpf .olt main_v6 main_v7
  (main_v2, main_v5, main_v8)
-- ==== Pre_finite_ReferenceIdeal.lean ====
abbrev S2x128x512 : Shape := ⟨3, ![2, 128, 512]⟩
abbrev S512x512 : Shape := ⟨2, ![512, 512]⟩
abbrev S2x4096x2x64 : Shape := ⟨4, ![2, 4096, 2, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x4096x2x64 : S_.BroadcastsInDim S2x4096x2x64 (![] : Fin 0 → Fin S2x4096x2x64.rank)

variable [Facts]

def fn {F : FTy → Type} [FloatOps F] (main_arg0 : FVec F S2x128x512 .bf16) (main_arg1 : FVec F S512x512 .bf16) (main_arg2 : FVec F S2x4096x2x64 .bf16) (main_arg3 : FVec F S2x4096x2x64 .bf16) (main_arg4 : FVec F S512x512 .bf16) : IVec S2x128x512 1 × IVec S512x512 1 × IVec S2x4096x2x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x512 .bf16 := Host.absf main_arg1
  let main_cst_0 : FVec F S_ .bf16 := constant S_ .bf16 0x7F80#16
  let main_v4 : FVec F S512x512 .bf16 := broadcastInDim S512x512 ![] bcast_S_S512x512 main_cst_0
  let main_v5 : IVec S512x512 1 := cmpf .olt main_v3 main_v4
  let main_v6 : FVec F S2x4096x2x64 .bf16 := Host.absf main_arg2
  let main_cst_1 : FVec F S_ .bf16 := constant S_ .bf16 0x7F80#16
  let main_v7 : FVec F S2x4096x2x64 .bf16 := broadcastInDim S2x4096x2x64 ![] bcast_S_S2x4096x2x64 main_cst_1
  let main_v8 : IVec S2x4096x2x64 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S2x128x2x64 : Shape := ⟨4, ![2, 128, 2, 64]⟩
abbrev S8x2x144x128 : Shape := ⟨4, ![8, 2, 144, 128]⟩
abbrev S8x5x144x128 : Shape := ⟨4, ![8, 5, 144, 128]⟩
abbrev S40 : Shape := ⟨1, ![40]⟩
abbrev S_ : Shape := ⟨0, ![]⟩
abbrev S1x128x512 : Shape := ⟨3, ![1, 128, 512]⟩
abbrev S128x512 : Shape := ⟨2, ![128, 512]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S1x128 : Shape := ⟨2, ![1, 128]⟩
abbrev S64x128 : Shape := ⟨2, ![64, 128]⟩
abbrev S1x1x64x128 : Shape := ⟨4, ![1, 1, 64, 128]⟩
abbrev S16x128 : Shape := ⟨2, ![16, 128]⟩
abbrev S1x1x16x128 : Shape := ⟨4, ![1, 1, 16, 128]⟩
abbrev S1 : Shape := ⟨1, ![1]⟩
abbrev S1x1x144x128 : Shape := ⟨4, ![1, 1, 144, 128]⟩
abbrev S144x128 : Shape := ⟨2, ![144, 128]⟩
abbrev S2x128 : Shape := ⟨2, ![2, 128]⟩
abbrev S512x128 : Shape := ⟨2, ![512, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x2x64, .bf16⟩
  | .hbm, ⟨3, _⟩ => ⟨S2x128x2x64, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x2x64, .bf16⟩
  | .local _ .vmem, ⟨4, _⟩ => ⟨S2x128x2x64, .bf16⟩
  | .local _ .vmem, ⟨5, _⟩ => ⟨S2x128x512, .f32⟩
  | .local _ .vmem, ⟨6, _⟩ => ⟨S8x2x144x128, .bf16⟩
  | .local _ .vmem, ⟨7, _⟩ => ⟨S8x5x144x128, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_52 : BitVec 32 := 1#32
  let v62 : BitVec 32 := Scalar.xori v2 c1_i32_52
  let c1_i32_59 : BitVec 32 := 1#32
  let v63 : BitVec 32 := Scalar.muli v62 c1_i32_59
  let v64 : BitVec 32 := Scalar.addi c0_i32_60 v63
  v64.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_98 : BitVec 32 := 8#32
  let v108 : BitVec 32 := Scalar.xori v2 c8_i32_98
  let c1_i32_105 : BitVec 32 := 1#32
  let v109 : BitVec 32 := Scalar.muli v108 c1_i32_105
  let v110 : BitVec 32 := Scalar.addi c0_i32_106 v109
  v110.toNat
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_144 : BitVec 32 := 2#32
  let v154 : BitVec 32 := Scalar.xori v2 c2_i32_144
  let c1_i32_150 : BitVec 32 := 1#32
  let v155 : BitVec 32 := Scalar.muli v154 c1_i32_150
  let v156 : BitVec 32 := Scalar.addi c0_i32_151 v155
  v156.toNat
def k0_dev9 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_189 : BitVec 32 := 16#32
  let v200 : BitVec 32 := Scalar.xori v2 c16_i32_189
  let c1_i32_194 : BitVec 32 := 1#32
  let v201 : BitVec 32 := Scalar.muli v200 c1_i32_194
  let v202 : BitVec 32 := Scalar.addi c0_i32_195 v201
  v202.toNat
def k0_dev10 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_240 : BitVec 32 := 4#32
  let v254 : BitVec 32 := Scalar.xori v2 c4_i32_240
  let c1_i32_246 : BitVec 32 := 1#32
  let v255 : BitVec 32 := Scalar.muli v254 c1_i32_246
  let v256 : BitVec 32 := Scalar.addi c0_i32_247 v255
  v256.toNat
def k0_dev11 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_285 : BitVec 32 := 1#32
  let v300 : BitVec 32 := Scalar.xori v2 c1_i32_285
  let c1_i32_291 : BitVec 32 := 1#32
  let v301 : BitVec 32 := Scalar.muli v300 c1_i32_291
  let v302 : BitVec 32 := Scalar.addi c0_i32_292 v301
  v302.toNat
def k0_dev12 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_330 : BitVec 32 := 8#32
  let v346 : BitVec 32 := Scalar.xori v2 c8_i32_330
  let c1_i32_335 : BitVec 32 := 1#32
  let v347 : BitVec 32 := Scalar.muli v346 c1_i32_335
  let v348 : BitVec 32 := Scalar.addi c0_i32_336 v347
  v348.toNat
def k0_dev13 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_374 : BitVec 32 := 2#32
  let v392 : BitVec 32 := Scalar.xori v2 c2_i32_374
  let c1_i32_379 : BitVec 32 := 1#32
  let v393 : BitVec 32 := Scalar.muli v392 c1_i32_379
  let v394 : BitVec 32 := Scalar.addi c0_i32_380 v393
  v394.toNat
def k0_dev14 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_409 : BitVec 32 := 2#32
  let v422 : BitVec 32 := Scalar.xori v2 c2_i32_409
  let c1_i32_416 : BitVec 32 := 1#32
  let v423 : BitVec 32 := Scalar.muli v422 c1_i32_416
  let v424 : BitVec 32 := Scalar.addi c0_i32_417 v423
  v424.toNat
def k0_dev15 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_446 : BitVec 32 := 16#32
  let v452 : BitVec 32 := Scalar.xori v2 c16_i32_446
  let c1_i32_453 : BitVec 32 := 1#32
  let v453 : BitVec 32 := Scalar.muli v452 c1_i32_453
  let v454 : BitVec 32 := Scalar.addi c0_i32_454 v453
  v454.toNat
def k0_dev16 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_483 : BitVec 32 := 4#32
  let v482 : BitVec 32 := Scalar.xori v2 c4_i32_483
  let c1_i32_489 : BitVec 32 := 1#32
  let v483 : BitVec 32 := Scalar.muli v482 c1_i32_489
  let v484 : BitVec 32 := Scalar.addi c0_i32_490 v483
  v484.toNat
def k0_dev17 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_519 : BitVec 32 := 1#32
  let v512 : BitVec 32 := Scalar.xori v2 c1_i32_519
  let c1_i32_526 : BitVec 32 := 1#32
  let v513 : BitVec 32 := Scalar.muli v512 c1_i32_526
  let v514 : BitVec 32 := Scalar.addi c0_i32_527 v513
  v514.toNat
def k0_dev18 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_556 : BitVec 32 := 8#32
  let v542 : BitVec 32 := Scalar.xori v2 c8_i32_556
  let c1_i32_562 : BitVec 32 := 1#32
  let v543 : BitVec 32 := Scalar.muli v542 c1_i32_562
  let v544 : BitVec 32 := Scalar.addi c0_i32_563 v543
  v544.toNat
def k0_dev19 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_592 : BitVec 32 := 2#32
  let v572 : BitVec 32 := Scalar.xori v2 c2_i32_592
  let c1_i32_598 : BitVec 32 := 1#32
  let v573 : BitVec 32 := Scalar.muli v572 c1_i32_598
  let v574 : BitVec 32 := Scalar.addi c0_i32_599 v573
  v574.toNat
def k0_dev20 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_628 : BitVec 32 := 16#32
  let v602 : BitVec 32 := Scalar.xori v2 c16_i32_628
  let c1_i32_634 : BitVec 32 := 1#32
  let v603 : BitVec 32 := Scalar.muli v602 c1_i32_634
  let v604 : BitVec 32 := Scalar.addi c0_i32_635 v603
  v604.toNat
def k0_dev21 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_664 : BitVec 32 := 4#32
  let v632 : BitVec 32 := Scalar.xori v2 c4_i32_664
  let c1_i32_670 : BitVec 32 := 1#32
  let v633 : BitVec 32 := Scalar.muli v632 c1_i32_670
  let v634 : BitVec 32 := Scalar.addi c0_i32_671 v633
  v634.toNat
def k0_dev22 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_711 : BitVec 32 := 4#32
  let v668 : BitVec 32 := Scalar.xori v2 c4_i32_711
  let c1_i32_718 : BitVec 32 := 1#32
  let v669 : BitVec 32 := Scalar.muli v668 c1_i32_718
  let v670 : BitVec 32 := Scalar.addi c0_i32_719 v669
  v670.toNat
def k0_dev23 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_759 : BitVec 32 := 1#32
  let v704 : BitVec 32 := Scalar.xori v2 c1_i32_759
  let c1_i32_766 : BitVec 32 := 1#32
  let v705 : BitVec 32 := Scalar.muli v704 c1_i32_766
  let v706 : BitVec 32 := Scalar.addi c0_i32_767 v705
  v706.toNat
def k0_dev24 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_807 : BitVec 32 := 8#32
  let v740 : BitVec 32 := Scalar.xori v2 c8_i32_807
  let c1_i32_813 : BitVec 32 := 1#32
  let v741 : BitVec 32 := Scalar.muli v740 c1_i32_813
  let v742 : BitVec 32 := Scalar.addi c0_i32_814 v741
  v742.toNat
def k0_dev25 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_854 : BitVec 32 := 2#32
  let v776 : BitVec 32 := Scalar.xori v2 c2_i32_854
  let c1_i32_860 : BitVec 32 := 1#32
  let v777 : BitVec 32 := Scalar.muli v776 c1_i32_860
  let v778 : BitVec 32 := Scalar.addi c0_i32_861 v777
  v778.toNat
def k0_dev26 (d0 : Dev nD) : Nat :=
  let c0_i32_908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_901 : BitVec 32 := 16#32
  let v812 : BitVec 32 := Scalar.xori v2 c16_i32_901
  let c1_i32_907 : BitVec 32 := 1#32
  let v813 : BitVec 32 := Scalar.muli v812 c1_i32_907
  let v814 : BitVec 32 := Scalar.addi c0_i32_908 v813
  v814.toNat
def k0_dev27 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_948 : BitVec 32 := 4#32
  let v848 : BitVec 32 := Scalar.xori v2 c4_i32_948
  let c1_i32_954 : BitVec 32 := 1#32
  let v849 : BitVec 32 := Scalar.muli v848 c1_i32_954
  let v850 : BitVec 32 := Scalar.addi c0_i32_955 v849
  v850.toNat
def k0_dev28 (d0 : Dev nD) : Nat :=
  let c0_i32_1003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_995 : BitVec 32 := 1#32
  let v884 : BitVec 32 := Scalar.xori v2 c1_i32_995
  let c1_i32_1002 : BitVec 32 := 1#32
  let v885 : BitVec 32 := Scalar.muli v884 c1_i32_1002
  let v886 : BitVec 32 := Scalar.addi c0_i32_1003 v885
  v886.toNat
def k0_dev29 (d0 : Dev nD) : Nat :=
  let c0_i32_1050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1043 : BitVec 32 := 8#32
  let v920 : BitVec 32 := Scalar.xori v2 c8_i32_1043
  let c1_i32_1049 : BitVec 32 := 1#32
  let v921 : BitVec 32 := Scalar.muli v920 c1_i32_1049
  let v922 : BitVec 32 := Scalar.addi c0_i32_1050 v921
  v922.toNat
def k0_dev30 (d0 : Dev nD) : Nat :=
  let c0_i32_1098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1090 : BitVec 32 := 8#32
  let v956 : BitVec 32 := Scalar.xori v2 c8_i32_1090
  let c1_i32_1097 : BitVec 32 := 1#32
  let v957 : BitVec 32 := Scalar.muli v956 c1_i32_1097
  let v958 : BitVec 32 := Scalar.addi c0_i32_1098 v957
  v958.toNat
def k0_dev31 (d0 : Dev nD) : Nat :=
  let c0_i32_1146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1138 : BitVec 32 := 2#32
  let v992 : BitVec 32 := Scalar.xori v2 c2_i32_1138
  let c1_i32_1145 : BitVec 32 := 1#32
  let v993 : BitVec 32 := Scalar.muli v992 c1_i32_1145
  let v994 : BitVec 32 := Scalar.addi c0_i32_1146 v993
  v994.toNat
def k0_dev32 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1186 : BitVec 32 := 16#32
  let v1028 : BitVec 32 := Scalar.xori v2 c16_i32_1186
  let c1_i32_1192 : BitVec 32 := 1#32
  let v1029 : BitVec 32 := Scalar.muli v1028 c1_i32_1192
  let v1030 : BitVec 32 := Scalar.addi c0_i32_1193 v1029
  v1030.toNat
def k0_dev33 (d0 : Dev nD) : Nat :=
  let c0_i32_1240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1233 : BitVec 32 := 4#32
  let v1064 : BitVec 32 := Scalar.xori v2 c4_i32_1233
  let c1_i32_1239 : BitVec 32 := 1#32
  let v1065 : BitVec 32 := Scalar.muli v1064 c1_i32_1239
  let v1066 : BitVec 32 := Scalar.addi c0_i32_1240 v1065
  v1066.toNat
def k0_dev34 (d0 : Dev nD) : Nat :=
  let c0_i32_1287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1280 : BitVec 32 := 1#32
  let v1100 : BitVec 32 := Scalar.xori v2 c1_i32_1280
  let c1_i32_1286 : BitVec 32 := 1#32
  let v1101 : BitVec 32 := Scalar.muli v1100 c1_i32_1286
  let v1102 : BitVec 32 := Scalar.addi c0_i32_1287 v1101
  v1102.toNat
def k0_dev35 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1327 : BitVec 32 := 8#32
  let v1136 : BitVec 32 := Scalar.xori v2 c8_i32_1327
  let c1_i32_1333 : BitVec 32 := 1#32
  let v1137 : BitVec 32 := Scalar.muli v1136 c1_i32_1333
  let v1138 : BitVec 32 := Scalar.addi c0_i32_1334 v1137
  v1138.toNat
def k0_dev36 (d0 : Dev nD) : Nat :=
  let c0_i32_1381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1374 : BitVec 32 := 2#32
  let v1172 : BitVec 32 := Scalar.xori v2 c2_i32_1374
  let c1_i32_1380 : BitVec 32 := 1#32
  let v1173 : BitVec 32 := Scalar.muli v1172 c1_i32_1380
  let v1174 : BitVec 32 := Scalar.addi c0_i32_1381 v1173
  v1174.toNat
def k0_dev37 (d0 : Dev nD) : Nat :=
  let c0_i32_1428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1421 : BitVec 32 := 16#32
  let v1208 : BitVec 32 := Scalar.xori v2 c16_i32_1421
  let c1_i32_1427 : BitVec 32 := 1#32
  let v1209 : BitVec 32 := Scalar.muli v1208 c1_i32_1427
  let v1210 : BitVec 32 := Scalar.addi c0_i32_1428 v1209
  v1210.toNat
def k0_dev38 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1468 : BitVec 32 := 16#32
  let v1244 : BitVec 32 := Scalar.xori v2 c16_i32_1468
  let c1_i32_1475 : BitVec 32 := 1#32
  let v1245 : BitVec 32 := Scalar.muli v1244 c1_i32_1475
  let v1246 : BitVec 32 := Scalar.addi c0_i32_1476 v1245
  v1246.toNat
def k0_dev39 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1516 : BitVec 32 := 4#32
  let v1280 : BitVec 32 := Scalar.xori v2 c4_i32_1516
  let c1_i32_1522 : BitVec 32 := 1#32
  let v1281 : BitVec 32 := Scalar.muli v1280 c1_i32_1522
  let v1282 : BitVec 32 := Scalar.addi c0_i32_1523 v1281
  v1282.toNat
def k0_dev40 (d0 : Dev nD) : Nat :=
  let c0_i32_1570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1563 : BitVec 32 := 1#32
  let v1316 : BitVec 32 := Scalar.xori v2 c1_i32_1563
  let c1_i32_1569 : BitVec 32 := 1#32
  let v1317 : BitVec 32 := Scalar.muli v1316 c1_i32_1569
  let v1318 : BitVec 32 := Scalar.addi c0_i32_1570 v1317
  v1318.toNat
def k0_dev41 (d0 : Dev nD) : Nat :=
  let c0_i32_1617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1610 : BitVec 32 := 8#32
  let v1352 : BitVec 32 := Scalar.xori v2 c8_i32_1610
  let c1_i32_1616 : BitVec 32 := 1#32
  let v1353 : BitVec 32 := Scalar.muli v1352 c1_i32_1616
  let v1354 : BitVec 32 := Scalar.addi c0_i32_1617 v1353
  v1354.toNat
def k0_dev42 (d0 : Dev nD) : Nat :=
  let c0_i32_1664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1657 : BitVec 32 := 2#32
  let v1388 : BitVec 32 := Scalar.xori v2 c2_i32_1657
  let c1_i32_1663 : BitVec 32 := 1#32
  let v1389 : BitVec 32 := Scalar.muli v1388 c1_i32_1663
  let v1390 : BitVec 32 := Scalar.addi c0_i32_1664 v1389
  v1390.toNat
def k0_dev43 (d0 : Dev nD) : Nat :=
  let c0_i32_1711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1704 : BitVec 32 := 16#32
  let v1424 : BitVec 32 := Scalar.xori v2 c16_i32_1704
  let c1_i32_1710 : BitVec 32 := 1#32
  let v1425 : BitVec 32 := Scalar.muli v1424 c1_i32_1710
  let v1426 : BitVec 32 := Scalar.addi c0_i32_1711 v1425
  v1426.toNat
def k0_dev44 (d0 : Dev nD) : Nat :=
  let c0_i32_1758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1751 : BitVec 32 := 4#32
  let v1460 : BitVec 32 := Scalar.xori v2 c4_i32_1751
  let c1_i32_1757 : BitVec 32 := 1#32
  let v1461 : BitVec 32 := Scalar.muli v1460 c1_i32_1757
  let v1462 : BitVec 32 := Scalar.addi c0_i32_1758 v1461
  v1462.toNat
def k0_dev45 (d0 : Dev nD) : Nat :=
  let c0_i32_1805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1798 : BitVec 32 := 1#32
  let v1496 : BitVec 32 := Scalar.xori v2 c1_i32_1798
  let c1_i32_1804 : BitVec 32 := 1#32
  let v1497 : BitVec 32 := Scalar.muli v1496 c1_i32_1804
  let v1498 : BitVec 32 := Scalar.addi c0_i32_1805 v1497
  v1498.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x2x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x4096x2x64 : Shape := ⟨4, ![2, 4096, 2, 64]⟩
abbrev S2x128x8x64 : Shape := ⟨4, ![2, 128, 8, 64]⟩
abbrev S2x4096x2x4x64 : Shape := ⟨5, ![2, 4096, 2, 4, 64]⟩
abbrev S2x4096x8x64 : Shape := ⟨4, ![2, 4096, 8, 64]⟩
abbrev S_ : Shape := ⟨0, ![]⟩
abbrev S2x8x128x1 : Shape := ⟨4, ![2, 8, 128, 1]⟩
abbrev S2x1024x8x64 : Shape := ⟨4, ![2, 1024, 8, 64]⟩
abbrev S2x8x128x1024 : Shape := ⟨4, ![2, 8, 128, 1024]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 131
  | .vmem => 0
  | .smem => 0
  | _ => 0

abbrev hbmTy0_0 (i : Nat) : BufTy := match i % 128 with
  | 0 => ⟨S2x128x512, .bf16⟩
  | 1 => ⟨S512x512, .bf16⟩
  | 2 => ⟨S2x4096x2x64, .bf16⟩
  | 3 => ⟨S2x4096x2x64, .bf16⟩
  | 4 => ⟨S512x512, .bf16⟩
  | 5 => ⟨S2x128x512, .f32⟩
  | 6 => ⟨S512x512, .f32⟩
  | 7 => ⟨S2x4096x2x64, .f32⟩
  | 8 => ⟨S2x4096x2x64, .f32⟩
  | 9 => ⟨S512x512, .f32⟩
  | 10 => ⟨S2x128x512, .f32⟩
  | 11 => ⟨S2x128x8x64, .f32⟩
  | 12 => ⟨S2x4096x2x4x64, .f32⟩
  | 13 => ⟨S2x4096x8x64, .f32⟩
  | 14 => ⟨S2x4096x2x4x64, .f32⟩
  | 15 => ⟨S2x4096x8x64, .f32⟩
  | 16 => ⟨S_, .f32⟩
  | 17 => ⟨S2x128x8x64, .f32⟩
  | 18 => ⟨S_, .f32⟩
  | 19 => ⟨S2x8x128x1, .f32⟩
  | 20 => ⟨S_, .f32⟩
  | 21 => ⟨S2x8x128x1, .f32⟩
  | 22 => ⟨S2x1024x8x64, .f32⟩
  | 23 => ⟨S2x1024x8x64, .f32⟩
  | 24 => ⟨S2x8x128x1024, .f32⟩
  | 25 => ⟨S_, .f32⟩
  | 26 => ⟨S2x8x128x1024, .f32⟩
  | 27 => ⟨S2x8x128x1024, .f32⟩
  | 28 => ⟨S_, .f32⟩
  | 29 => ⟨S2x8x128, .f32⟩
  | 30 => ⟨S2x8x128x1, .f32⟩
  | 31 => ⟨S2x8x128x1, .f32⟩
  | 32 => ⟨S2x8x128x1, .f32⟩
  | 33 => ⟨S2x8x128x1, .f32⟩
  | 34 => ⟨S2x8x128x1024, .f32⟩
  | 35 => ⟨S2x8x128x1024, .f32⟩
  | 36 => ⟨S2x8x128x1024, .f32⟩
  | 37 => ⟨S2x8x128x1, .f32⟩
  | 38 => ⟨S_, .f32⟩
  | 39 => ⟨S2x8x128, .f32⟩
  | 40 => ⟨S2x8x128x1, .f32⟩
  | 41 => ⟨S2x8x128x1, .f32⟩
  | 42 => ⟨S2x128x8x1, .f32⟩
  | 43 => ⟨S2x128x8x64, .f32⟩
  | 44 => ⟨S2x128x8x64, .f32⟩
  | 45 => ⟨S2x8x64x128, .f32⟩
  | 46 => ⟨S2x128x8x64, .f32⟩
  | 47 => ⟨S2x128x8x64, .f32⟩
  | 48 => ⟨S2x1024x8x64, .f32⟩
  | 49 => ⟨S2x1024x8x64, .f32⟩
  | 50 => ⟨S2x8x128x1024, .f32⟩
  | 51 => ⟨S_, .f32⟩
  | 52 => ⟨S2x8x128x1024, .f32⟩
  | 53 => ⟨S2x8x128x1024, .f32⟩
  | 54 => ⟨S_, .f32⟩
  | 55 => ⟨S2x8x128, .f32⟩
  | 56 => ⟨S2x8x128x1, .f32⟩
  | 57 => ⟨S2x8x128x1, .f32⟩
  | 58 => ⟨S2x8x128x1, .f32⟩
  | 59 => ⟨S2x8x128x1, .f32⟩
  | 60 => ⟨S2x8x128x1024, .f32⟩
  | 61 => ⟨S2x8x128x1024, .f32⟩
  | 62 => ⟨S2x8x128x1024, .f32⟩
  | 63 => ⟨S2x8x128x1, .f32⟩
  | 64 => ⟨S_, .f32⟩
  | 65 => ⟨S2x8x128, .f32⟩
  | 66 => ⟨S2x8x128x1, .f32⟩
  | 67 => ⟨S2x8x128x1, .f32⟩
  | 68 => ⟨S2x128x8x1, .f32⟩
  | 69 => ⟨S2x128x8x64, .f32⟩
  | 70 => ⟨S2x128x8x64, .f32⟩
  | 71 => ⟨S2x8x64x128, .f32⟩
  | 72 => ⟨S2x128x8x64, .f32⟩
  | 73 => ⟨S2x128x8x64, .f32⟩
  | 74 => ⟨S2x1024x8x64, .f32⟩
  | 75 => ⟨S2x1024x8x64, .f32⟩
  | 76 => ⟨S2x8x128x1024, .f32⟩
  | 77 => ⟨S_, .f32⟩
  | 78 => ⟨S2x8x128x1024, .f32⟩
  | 79 => ⟨S2x8x128x1024, .f32⟩
  | 80 => ⟨S_, .f32⟩
  | 81 => ⟨S2x8x128, .f32⟩
  | 82 => ⟨S2x8x128x1, .f32⟩
  | 83 => ⟨S2x8x128x1, .f32⟩
  | 84 => ⟨S2x8x128x1, .f32⟩
  | 85 => ⟨S2x8x128x1, .f32⟩
  | 86 => ⟨S2x8x128x1024, .f32⟩
  | 87 => ⟨S2x8x128x1024, .f32⟩
  | 88 => ⟨S2x8x128x1024, .f32⟩
  | 89 => ⟨S2x8x128x1, .f32⟩
  | 90 => ⟨S_, .f32⟩
  | 91 => ⟨S2x8x128, .f32⟩
  | 92 => ⟨S2x8x128x1, .f32⟩
  | 93 => ⟨S2x8x128x1, .f32⟩
  | 94 => ⟨S2x128x8x1, .f32⟩
  | 95 => ⟨S2x128x8x64, .f32⟩
  | 96 => ⟨S2x128x8x64, .f32⟩
  | 97 => ⟨S2x8x64x128, .f32⟩
  | 98 => ⟨S2x128x8x64, .f32⟩
  | 99 => ⟨S2x128x8x64, .f32⟩
  | 100 => ⟨S2x1024x8x64, .f32⟩
  | 101 => ⟨S2x1024x8x64, .f32⟩
  | 102 => ⟨S2x8x128x1024, .f32⟩
  | 103 => ⟨S_, .f32⟩
  | 104 => ⟨S2x8x128x1024, .f32⟩
  | 105 => ⟨S2x8x128x1024, .f32⟩
  | 106 => ⟨S_, .f32⟩
  | 107 => ⟨S2x8x128, .f32⟩
  | 108 => ⟨S2x8x128x1, .f32⟩
  | 109 => ⟨S2x8x128x1, .f32⟩
  | 110 => ⟨S2x8x128x1, .f32⟩
  | 111 => ⟨S2x8x128x1, .f32⟩
  | 112 => ⟨S2x8x128x1024, .f32⟩
  | 113 => ⟨S2x8x128x1024, .f32⟩
  | 114 => ⟨S2x8x128x1024, .f32⟩
  | 115 => ⟨S2x8x128x1, .f32⟩
  | 116 => ⟨S_, .f32⟩
  | 117 => ⟨S2x8x128, .f32⟩
  | 118 => ⟨S2x8x128x1, .f32⟩
  | 119 => ⟨S2x8x128x1, .f32⟩
  | 120 => ⟨S2x128x8x1, .f32⟩
  | 121 => ⟨S2x128x8x64, .f32⟩
  | 122 => ⟨S2x128x8x64, .f32⟩
  | 123 => ⟨S2x8x64x128, .f32⟩
  | 124 => ⟨S2x128x8x64, .f32⟩
  | 125 => ⟨S2x128x8x64, .f32⟩
  | 126 => ⟨S2x128x8x1, .f32⟩
  | 127 => ⟨S2x128x8x64, .f32⟩
  | _ => ⟨S2x128x512, .bf16⟩

abbrev hbmTy0_1 (i : Nat) : BufTy := match i % 128 with
  | 0 => ⟨S2x128x8x64, .f32⟩
  | 1 => ⟨S2x128x512, .f32⟩
  | 2 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_11 : Ref sig .tc := ⟨.hbm, 103, rfl⟩
abbrev main_v86 : Ref sig .tc := ⟨.hbm, 104, rfl⟩
abbrev main_v87 : Ref sig .tc := ⟨.hbm, 105, rfl⟩
abbrev main_cst_12 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_13 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩

abbrev nD : Nat := 1
abbrev τ : Topo := Topo.v7x

variable {F : FTy → Type} [FloatOps F]
-- ==== Proof.Steps.lean ====
/-
# The kernel's body as a program over its parameters

The printed body is one straight line of some seven hundred effects. Here it is written again as it was
meant: five signals and a wait, then for each stream the local sums and their first copy, then the forty
exchange steps, the last eight waits and the two output rows; `body_eq` says that the printed body is this
program. Everything proved about a stream `k` and a step `i` is proved once, of the two variables.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Pipeline.Regions

@[expose] public section

noncomputable section

namespace Cert.XAttn

open Cert.KernelIdeal Cert.KernelIdeal.Gen
open Idealize.ShloMosaic Idealize.ShloMosaic.TcCoe
open Idealize.SL.Sem

variable {F : FTy → Type} [FloatOps F]

/-- A program on a TensorCore of the mesh. -/
abbrev PR (F : FTy → Type) [FloatOps F] (α : Type) : Type 1 := Prog (TpuEff nD τ sig (Elt F) Λ₀ .tc) α

/-! ## Buffers, windows, semaphores -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x128x2x64 .bf16 := Memref.whole cc0_stg3_0
abbrev vM : Memref sig .tc .vmem S2x128x2x64 .bf16 := Memref.whole cc0_stg4_0
abbrev oM : Memref sig .tc .vmem S2x128x512 .f32 := Memref.whole cc0_stg5_0
abbrev stM : Memref sig .tc .vmem S8x2x144x128 .bf16 := Memref.whole cc0_scratch0
abbrev rcM : Memref sig .tc .vmem S8x5x144x128 .bf16 := Memref.whole cc0_scratch1

/-- Which of the two slots of a stream's sums step `i` reads: even steps slot 0, odd steps slot 1. -/
abbrev slot (i : ℕ) : Fin 2 := Fin.ofNat 2 i

theorem inb_st : ∀ (k : Fin 8) (s : Fin 2) (a), (![k.val, s.val, 0, 0] : Fin 4 → ℕ) a + S1x1x144x128.size a ≤ S8x2x144x128.size a := by decide
theorem inb_rc : ∀ (k : Fin 8) (i : Fin 5) (a), (![k.val, i.val, 0, 0] : Fin 4 → ℕ) a + S1x1x144x128.size a ≤ S8x5x144x128.size a := by decide
theorem inb_num : ∀ (k : Fin 8) (j : Fin 2) (a), (![k.val, 0, 64 * j.val, 0] : Fin 4 → ℕ) a + S1x1x64x128.size a ≤ S8x2x144x128.size a := by decide
theorem inb_den : ∀ (k : Fin 8) (a), (![k.val, 0, 128, 0] : Fin 4 → ℕ) a + S1x1x16x128.size a ≤ S8x2x144x128.size a := by decide
theorem inb_sem : ∀ (k : Fin 8) (i : Fin 5) (a), (![5 * k.val + i.val] : Fin 1 → ℕ) a + S1.size a ≤ S40.size a := by decide
theorem inb_x : ∀ (b : Fin 2) (a), (![b.val, 0, 0] : Fin 3 → ℕ) a + S1x128x512.size a ≤ S2x128x512.size a := by decide
theorem inb_kv : ∀ (b h : Fin 2) (a), (![b.val, 0, h.val, 0] : Fin 4 → ℕ) a + S1x128x1x64.size a ≤ S2x128x2x64.size a := by decide
theorem slices_q : ∀ h : Fin 8, S128x512.Slices ![0, 64 * h.val] S128x64 := by decide
theorem slices_row : ∀ j : Fin 2, S144x128.Slices ![64 * j.val, 0] S64x128 := by decide
theorem slices_lin : ∀ j : Fin 2, S2x128.Slices ![j.val, 0] S1x128 := by decide

/-- The rectangle of slot `s` of stream `k`, and of the landing place of stream `k` at step `i`. -/
abbrev stR (k : Fin 8) (s : Fin 2) : Rect S8x2x144x128 := Rect.unit (s := S8x2x144x128) ![k.val, s.val, 0, 0] S1x1x144x128.size (inb_st k s)
abbrev rcR (k : Fin 8) (i : Fin 5) : Rect S8x5x144x128 := Rect.unit (s := S8x5x144x128) ![k.val, i.val, 0, 0] S1x1x144x128.size (inb_rc k i)
/-- The rectangles of the local sums: the 64 rows of head `j`, the 16 rows of denominators. -/
abbrev numR (k : Fin 8) (j : Fin 2) : Rect S8x2x144x128 := Rect.unit (s := S8x2x144x128) ![k.val, 0, 64 * j.val, 0] S1x1x64x128.size (inb_num k j)
abbrev denR (k : Fin 8) : Rect S8x2x144x128 := Rect.unit (s := S8x2x144x128) ![k.val, 0, 128, 0] S1x1x16x128.size (inb_den k)
abbrev xR (b : Fin 2) : Rect S2x128x512 := Rect.unit (s := S2x128x512) ![b.val, 0, 0] S1x128x512.size (inb_x b)
abbrev wR : Rect S512x512 := Rect.unit (s := S512x512) ![0, 0] S512x512.size inb_S512x512_S512x512_0_0
abbrev kvR (b h : Fin 2) : Rect S2x128x2x64 := Rect.unit (s := S2x128x2x64) ![b.val, 0, h.val, 0] S1x128x1x64.size (inb_kv b h)

theorem words_st : ∀ (k : Fin 8) (s : Fin 2), (stR k s).WholeWords (EltTy.packing .bf16) := by decide
theorem words_rc : ∀ (k : Fin 8) (i : Fin 5), (rcR k i).WholeWords (EltTy.packing .bf16) := by decide
theorem packed_st : ∀ (k : Fin 8) (s : Fin 2), (stR k s).PackedRows (EltTy.packing .bf16) := by decide
theorem packed_num : ∀ (k : Fin 8) (j : Fin 2), (numR k j).PackedRows (EltTy.packing .bf16) := by decide
theorem packed_den : ∀ k : Fin 8, (denR k).PackedRows (EltTy.packing .bf16) := by decide

/-- Slot `s` of stream `k`, and its landing place at step `i`, as the copies name them. -/
abbrev stW (k : Fin 8) (s : Fin 2) : Memref sig .tc .vmem S144x128 .bf16 :=
  (stM.slice (stR k s) (fun _ => rfl)).squeeze S144x128 squeezes_S1x1x144x128_S144x128
abbrev rcW (k : Fin 8) (i : Fin 5) : Memref sig .tc .vmem S144x128 .bf16 :=
  (rcM.slice (rcR k i) (fun _ => rfl)).squeeze S144x128 squeezes_S1x1x144x128_S144x128

/-- The semaphores of copy `(k, i)`. -/
abbrev sndS (k : Fin 8) (i : Fin 5) : DmaSem sig :=
  (((cc0_scratch2 : DmaSems sig S40).slice (Rect.unit (s := S40) ![5 * k.val + i.val] S1.size (inb_sem k i))).squeeze S_ squeezes_S1_S_).sem
abbrev rcvS (k : Fin 8) (i : Fin 5) : DmaSem sig :=
  (((cc0_scratch3 : DmaSems sig S40).slice (Rect.unit (s := S40) ![5 * k.val + i.val] S1.size (inb_sem k i))).squeeze S_ squeezes_S1_S_).sem
abbrev barS : Sem sig := (SemArray.scalar (sig.barrier 0 rfl) : Sems sig S_).sem

/-! ## Who talks to whom -/

/-- The order in which a stream goes through the five dimensions starts at its own. -/
abbrev rot (k : Fin 8) : ℕ := ([0, 3, 1, 4, 2, 0, 3, 1] : List ℕ).getD k.val 0
/-- The dimension of stream `k` at step `i`. -/
abbrev dimN (k : Fin 8) (i : ℕ) : ℕ := (i + rot k) % 5

/-- The logical id of the device whose word differs by `w`, as the kernel computes it. -/
def devN (w : BitVec 32) (d0 : Dev nD) : ℕ :=
  (Scalar.addi (0#32) (Scalar.muli (Scalar.xori (Scalar.remsi (Scalar.divsi (Dev.word d0) 1#32) 32#32) w) 1#32)).toNat

theorem devN_lt : ∀ (d : Fin 5) (c : Dev nD), devN (BitVec.ofNat 32 (2 ^ d.val)) c < nD := by decide +kernel

/-- The neighbour along dimension `d`. -/
def nb (d : Fin 5) (c : Dev nD) : Dev nD := ⟨devN (BitVec.ofNat 32 (2 ^ d.val)) c, devN_lt d c⟩

theorem nb_nb : ∀ (d : Fin 5) (c : Dev nD), nb d (nb d c) = c := by decide +kernel

abbrev dimF (k : Fin 8) (i : Fin 5) : Fin 5 := ⟨dimN k i.val, Nat.mod_lt _ (by decide)⟩
/-- The partner in copy `(k, i)`. -/
abbrev ptn (k : Fin 8) (i : Fin 5) (c : Dev nD) : Dev nD := nb (dimF k i) c

/-! ## The values -/

/-- Queries of one batch row, scaled. -/
def qAll (x : Vec F S1x128x512 .bf16) (w : Vec F S512x512 .bf16) : FVec F S128x512 .bf16 :=
  truncf .bf16 (mulf (matmul dot_S128x512_S512x512_S128x512_1_0_0_1_n_n none (shapeCast S128x512 x shapeCasts_S1x128x512_S128x512)
      (shapeCast S512x512 w shapeCasts_S512x512_S512x512) (constant S128x512 .f32 0x00000000#32))
    (broadcast S128x512 (Scalar.ofBits .f32 0x3E000000#32))) bitsLt_bf16_f32

/-- Exponentials of the scores of head `h`: keys by queries. -/
def pMat (q : FVec F S128x512 .bf16) (h : Fin 8) (kk : Vec F S1x128x1x64 .bf16) : FVec F S128x128 .f32 :=
  exp (matmul dot_S128x64_S128x64_S128x128_1_1_0_0_n_n none (shapeCast S128x64 kk shapeCasts_S1x128x1x64_S128x64)
    (extractStridedSlice S128x64 ![0, 64 * h.val] q (slices_q h)) (constant S128x128 .f32 0x00000000#32))

/-- Their sums over the keys. -/
def lRow (q : FVec F S128x512 .bf16) (h : Fin 8) (kk : Vec F S1x128x1x64 .bf16) : FVec F S1x128 .f32 :=
  shapeCast S1x128 (multiReduction .add [0] S128 (pMat q h kk) 0x00000000#32 reduces_S128x128_S128 (.inl rfl) rfl) shapeCasts_S128_S1x128

/-- The weighted sums of the values of head `h`. -/
def numP (q : FVec F S128x512 .bf16) (h : Fin 8) (kk vv : Vec F S1x128x1x64 .bf16) : FVec F S1x1x64x128 .bf16 :=
  shapeCast S1x1x64x128 (truncf .bf16 (matmul dot_S128x64_S128x128_S64x128_0_0_1_1_n_n none
    (shapeCast S128x64 vv shapeCasts_S1x128x1x64_S128x64) (truncf .bf16 (pMat q h kk) bitsLt_bf16_f32)
    (constant S64x128 .f32 0x00000000#32)) bitsLt_bf16_f32) shapeCasts_S64x128_S1x1x64x128

/-- The denominators of two heads, sixteen rows taking them in turn. -/
def denP (a b : FVec F S1x128 .f32) : FVec F S1x1x16x128 .bf16 :=
  shapeCast S1x1x16x128 (truncf .bf16 (concatenate S16x128 0
    [⟨S1x128, a⟩, ⟨S1x128, b⟩, ⟨S1x128, a⟩, ⟨S1x128, b⟩, ⟨S1x128, a⟩, ⟨S1x128, b⟩, ⟨S1x128, a⟩, ⟨S1x128, b⟩,
      ⟨S1x128, a⟩, ⟨S1x128, b⟩, ⟨S1x128, a⟩, ⟨S1x128, b⟩, ⟨S1x128, a⟩, ⟨S1x128, b⟩, ⟨S1x128, a⟩, ⟨S1x128, b⟩]
    concatenates_S1x128_S1x128_S1x128_S1x128_S1x128_S1x128_S1x128_S1x128_S1x128_S1x128_S1x128_S1x128_S1x128_S1x128_S1x128_S1x128_S16x128_d0) bitsLt_bf16_f32)
    shapeCasts_S16x128_S1x1x16x128

/-- Two partial sums added. -/
def addV (a b : FVec F S144x128 .bf16) : FVec F S144x128 .bf16 :=
  truncf .bf16 (addf (extf .f32 a bitsLt_bf16_f32) (extf .f32 b bitsLt_bf16_f32)) bitsLt_bf16_f32

def addP (a b : Vec F S1x1x144x128 .bf16) : FVec F S1x1x144x128 .bf16 :=
  shapeCast S1x1x144x128 (addV (shapeCast S144x128 a shapeCasts_S1x1x144x128_S144x128) (shapeCast S144x128 b shapeCasts_S1x1x144x128_S144x128))
    shapeCasts_S144x128_S1x1x144x128

/-- Head `j` of a stream, divided by its denominators. -/
def attV (a : FVec F S144x128 .bf16) (j : Fin 2) : FVec F S64x128 .bf16 :=
  truncf .bf16 (mulf (extf .f32 (extractStridedSlice S64x128 ![64 * j.val, 0] a (slices_row j)) bitsLt_bf16_f32)
    (broadcastTo S64x128 (extractStridedSlice S1x128 ![j.val, 0]
      (divf (broadcast S2x128 (Scalar.ofBits .f32 0x3F800000#32))
        (extf .f32 (extractStridedSlice S2x128 ![128, 0] a slices_S144x128_o128_0_S2x128) bitsLt_bf16_f32)) (slices_lin j))
      broadcasts_S1x128_S64x128)) bitsLt_bf16_f32

/-- One batch row of the result from its four streams. -/
def outV (a b c d : FVec F S144x128 .bf16) (w : Vec F S512x512 .bf16) : FVec F S1x128x512 .f32 :=
  shapeCast S1x128x512 (matmul dot_S512x128_S512x512_S128x512_0_0_1_1_n_n none
    (concatenate S512x128 0 [⟨S64x128, attV a 0⟩, ⟨S64x128, attV a 1⟩, ⟨S64x128, attV b 0⟩, ⟨S64x128, attV b 1⟩,
        ⟨S64x128, attV c 0⟩, ⟨S64x128, attV c 1⟩, ⟨S64x128, attV d 0⟩, ⟨S64x128, attV d 1⟩]
      concatenates_S64x128_S64x128_S64x128_S64x128_S64x128_S64x128_S64x128_S64x128_S512x128_d0)
    (shapeCast S512x512 w shapeCasts_S512x512_S512x512) (constant S128x512 .f32 0x00000000#32)) shapeCasts_S128x512_S1x128x512

abbrev sq (a : Vec F S1x1x144x128 .bf16) : FVec F S144x128 .bf16 := shapeCast S144x128 a shapeCasts_S1x1x144x128_S144x128

/-! ## The program -/

/-- `f s`, `f (s + 1)`, … : `n` of them. -/
def loopN (f : ℕ → PR F PUnit) : ℕ → ℕ → PR F PUnit
  | 0, _ => pure ⟨⟩
  | n + 1, s => f s >>= fun _ => loopN f n (s + 1)

def sendP (d0 : Dev nD) (k : Fin 8) (i : Fin 5) : PR F PUnit :=
  Prog.lift (.enqueueDma (stW k (slot i.val)) (.remote (Dev.tc (ptn k i d0)) (rcW k i) (.dma (sndS k i))) (.dma (rcvS k i))
    (((Memref.isWhole_whole cc0_scratch0).wordExact_slice rfl _ (words_st k (slot i.val))).reshape _ _)
    (((Memref.isWhole_whole cc0_scratch1).wordExact_slice rfl _ (words_rc k i)).reshape _ _) ⟨⟨rfl, Or.inl rfl⟩, trivial⟩)

def waitRcv (k : Fin 8) (i : Fin 5) : PR F PUnit :=
  Prog.lift (.waitDma2 (rcvS k i) (stW k (slot i.val)) (rcW k i)
    (((Memref.isWhole_whole cc0_scratch0).wordExact_slice rfl _ (words_st k (slot i.val))).reshape _ _)
    (((Memref.isWhole_whole cc0_scratch1).wordExact_slice rfl _ (words_rc k i)).reshape _ _))

def waitSnd (k : Fin 8) (i : Fin 5) : PR F PUnit :=
  Prog.lift (.waitDma2 (sndS k i) (rcW k i) (stW k (slot i.val))
    (((Memref.isWhole_whole cc0_scratch1).wordExact_slice rfl _ (words_rc k i)).reshape _ _)
    (((Memref.isWhole_whole cc0_scratch0).wordExact_slice rfl _ (words_st k (slot i.val))).reshape _ _))

def loadSt (k : Fin 8) (s : Fin 2) : PR F (Vec F S1x1x144x128 .bf16) :=
  Prog.lift (.load stM (stR k s).toLoadRect (View.loadsAt_vmem h_S1x1x144x128))

/-- What step `i` of stream `k` does between its waits and its copy. -/
def accP (k : Fin 8) (i : Fin 5) : PR F PUnit := do
  let a ← loadSt k (slot i.val)
  let b ← Prog.lift (.load rcM (rcR k i).toLoadRect (View.loadsAt_vmem h_S1x1x144x128))
  let _ ← loadSt k (slot (i.val + 1))
  Prog.lift (.store stM (stR k (slot (i.val + 1))) (addP a b) Finset.univ
    (View.stores_vmem h_S1x1x144x128 ((Memref.isWhole_whole cc0_scratch0).storeExact_slice rfl _ (packed_st k (slot (i.val + 1)))) (fun _ => rfl)) (.inl rfl))

def loadQ (b : Fin 2) : PR F (FVec F S128x512 .bf16) := do
  let x ← Prog.lift (.load xM (xR b).toLoadRect (View.loadsAt_vmem h_S1x128x512))
  let w ← Prog.lift (.load wqM wR.toLoadRect (View.loadsAt_vmem h_S512x512))
  pure (qAll x w)

/-- Head `j` of stream `k`, the `g`-th of batch row `b`: its weighted sums stored, its denominators returned. -/
def headP (b : Fin 2) (g : ℕ) (k : Fin 8) (q : FVec F S128x512 .bf16) (j : Fin 2) : PR F (FVec F S1x128 .f32) := do
  let kk ← Prog.lift (.load kM (kvR b (Fin.ofNat 2 (g / 2))).toLoadRect (View.loadsAt_vmem h_S1x128x1x64))
  let vv ← Prog.lift (.load vM (kvR b (Fin.ofNat 2 (g / 2))).toLoadRect (View.loadsAt_vmem h_S1x128x1x64))
  let _ ← Prog.lift (.load stM (numR k j).toLoadRect (View.loadsAt_vmem h_S1x1x64x128))
  Prog.lift (.store stM (numR k j) (numP q (Fin.ofNat 8 (2 * g + j.val)) kk vv) Finset.univ
    (View.stores_vmem h_S1x1x64x128 ((Memref.isWhole_whole cc0_scratch0).storeExact_slice rfl _ (packed_num _ j)) (fun _ => rfl)) (.inl rfl))
  pure (lRow q (Fin.ofNat 8 (2 * g + j.val)) kk)

def streamK (d0 : Dev nD) (b : Fin 2) (g : ℕ) (k : Fin 8) (q : FVec F S128x512 .bf16) : PR F PUnit := do
  let l0 ← headP b g k q 0
  let l1 ← headP b g k q 1
  let _ ← Prog.lift (.load stM (denR k).toLoadRect (View.loadsAt_vmem h_S1x1x16x128))
  Prog.lift (.store stM (denR k) (denP l0 l1) Finset.univ
    (View.stores_vmem h_S1x1x16x128 ((Memref.isWhole_whole cc0_scratch0).storeExact_slice rfl _ (packed_den _)) (fun _ => rfl)) (.inl rfl))
  sendP d0 k 0

def streamP (d0 : Dev nD) (b : Fin 2) (q : FVec F S128x512 .bf16) (g : ℕ) : PR F PUnit :=
  streamK d0 b g (Fin.ofNat 8 (4 * b.val + g)) q

/-- The first step of stream `e`, a middle one (the `e`-th of them all), the last one of stream `e`. -/
def stepF (d0 : Dev nD) (e : ℕ) : PR F PUnit := do
  waitRcv (Fin.ofNat 8 e) 0
  accP (Fin.ofNat 8 e) 0
  sendP d0 (Fin.ofNat 8 e) 1

def stepM (d0 : Dev nD) (e : ℕ) : PR F PUnit := do
  waitRcv (Fin.ofNat 8 e) (Fin.ofNat 5 (e / 8 + 1))
  waitSnd (Fin.ofNat 8 e) (Fin.ofNat 5 (e / 8))
  accP (Fin.ofNat 8 e) (Fin.ofNat 5 (e / 8 + 1))
  sendP d0 (Fin.ofNat 8 e) (Fin.ofNat 5 (e / 8 + 2))

def stepL (e : ℕ) : PR F PUnit := do
  waitRcv (Fin.ofNat 8 e) 4
  waitSnd (Fin.ofNat 8 e) 3
  accP (Fin.ofNat 8 e) 4

def outP (e : ℕ) : PR F PUnit := do
  let a ← loadSt (Fin.ofNat 8 (4 * e)) 1
  let b ← loadSt (Fin.ofNat 8 (4 * e + 1)) 1
  let c ← loadSt (Fin.ofNat 8 (4 * e + 2)) 1
  let d ← loadSt (Fin.ofNat 8 (4 * e + 3)) 1
  let w ← Prog.lift (.load woM wR.toLoadRect (View.loadsAt_vmem h_S512x512))
  let _ ← Prog.lift (.load oM (xR (Fin.ofNat 2 e)).toLoadRect (View.loadsAt_vmem h_S1x128x512))
  Prog.lift (.store oM (xR (Fin.ofNat 2 e)) (outV (sq a) (sq b) (sq c) (sq d) w) Finset.univ (View.stores_vmem_bits_univ h_S1x128x512 rfl) (.inl rfl))

def batchP (d0 : Dev nD) (b : ℕ) : PR F PUnit := do
  let q ← loadQ (Fin.ofNat 2 b)
  loopN (streamP d0 (Fin.ofNat 2 b) q) 4 0

def bodyP : PR F PUnit := do
  let d0 ← Prog.lift .deviceId
  loopN (fun e => semSignalWord (nb (Fin.ofNat 5 e) d0) barS 1#32) 5 0
  semWaitWord barS 5#32
  loopN (batchP d0) 2 0
  loopN (stepF d0) 8 0
  loopN (stepM d0) 24 0
  loopN stepL 8 0
  loopN (fun e => waitSnd (Fin.ofNat 8 e) 4) 8 0
  loopN outP 2 0

set_option maxRecDepth 65536 in
/-- The printed body is that program. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1) (Memref.isWhole_whole _)
    cc0_scratch2 cc0_scratch3 = bodyP := by
  chain_rfl

end Cert.XAttn

end
-- ==== Proof.Protocol.lean ====
/-
# Who hands what to whom

Every device has one barrier cell and, for each stream `k` and step `i`, one send cell and one receive cell. The
barrier cell has five duties, one for each dimension: the neighbour along it hands over its own landing places of that
dimension. A copy's send cell hands back the half of the stream's slot lent to the copy, its receive cell the landing
place at the partner's partial sum. What the sums are is said here once, for any float values.
-/
module

public import proofs.«01_k».proof.Proof.Steps
public import proofs.«01_k».proof.Proof.Gen.KernelIdeal.Launch
public import Idealize.ShloMosaic.Lib.MemrefSat
public import Idealize.ShloMosaic.Lib.PointwiseCore

@[expose] public section

noncomputable section

namespace Cert.XAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What the staging buffers hold -/

def xv (c : Dev nD) : (cc0_stg0_0 : Ref sig .tc).ty.Contents (Elt F) := (win0_0.blk (0 : Fin 1)).view.read (Elt F) (m ((c : Thread nD τ).loc main_arg0))
def wqv (c : Dev nD) : (cc0_stg1_0 : Ref sig .tc).ty.Contents (Elt F) := (win0_1.blk (0 : Fin 1)).view.read (Elt F) (m ((c : Thread nD τ).loc main_arg1))
def wov (c : Dev nD) : (cc0_stg2_0 : Ref sig .tc).ty.Contents (Elt F) := (win0_2.blk (0 : Fin 1)).view.read (Elt F) (m ((c : Thread nD τ).loc main_arg4))
def kv (c : Dev nD) : (cc0_stg3_0 : Ref sig .tc).ty.Contents (Elt F) := (win0_3.blk (0 : Fin 1)).view.read (Elt F) (m ((c : Thread nD τ).loc main_arg2))
def vv (c : Dev nD) : (cc0_stg4_0 : Ref sig .tc).ty.Contents (Elt F) := (win0_4.blk (0 : Fin 1)).view.read (Elt F) (m ((c : Thread nD τ).loc main_arg3))

/-! ## The sums -/

/-- Queries of batch row `b` on device `c`. -/
def qv (c : Dev nD) (b : Fin 2) : FVec F S128x512 .bf16 :=
  qAll (xM.view.readAt (Elt F) (xR b).toLoadRect (xv m c)) (wqM.view.readAt (Elt F) wR.toLoadRect (wqv m c))

def kkv (c : Dev nD) (b h : Fin 2) : Vec F S1x128x1x64 .bf16 := kM.view.readAt (Elt F) (kvR b h).toLoadRect (kv m c)
def vvv (c : Dev nD) (b h : Fin 2) : Vec F S1x128x1x64 .bf16 := vM.view.readAt (Elt F) (kvR b h).toLoadRect (vv m c)

/-- Head `j` of stream `(b, g)`: weighted sums and denominators. -/
def numV (c : Dev nD) (b : Fin 2) (g : ℕ) (j : Fin 2) : FVec F S1x1x64x128 .bf16 :=
  numP (qv m c b) (Fin.ofNat 8 (2 * g + j.val)) (kkv m c b (Fin.ofNat 2 (g / 2))) (vvv m c b (Fin.ofNat 2 (g / 2)))
def linV (c : Dev nD) (b : Fin 2) (g : ℕ) (j : Fin 2) : FVec F S1x128 .f32 :=
  lRow (qv m c b) (Fin.ofNat 8 (2 * g + j.val)) (kkv m c b (Fin.ofNat 2 (g / 2)))

/-- Rows `0 … 63`, `64 … 127` and `128 … 143` of a stream's sums. -/
def rowsV (n0 n1 : FVec F S1x1x64x128 .bf16) (dn : FVec F S1x1x16x128 .bf16) : FVec F S144x128 .bf16 := fun x =>
  if h0 : (x 0).val < 64 then n0 (ix4 0 0 ⟨(x 0).val, h0⟩ (x 1))
  else if h1 : (x 0).val < 128 then n1 (ix4 0 0 ⟨(x 0).val - 64, by omega⟩ (x 1))
  else dn (ix4 0 0 ⟨(x 0).val - 128, by have : (x 0).val < 144 := (x 0).isLt; omega⟩ (x 1))

/-- What stream `(b, g)` holds before the exchange. -/
def locBG (c : Dev nD) (b : Fin 2) (g : ℕ) : FVec F S144x128 .bf16 :=
  rowsV (numV m c b g 0) (numV m c b g 1) (denP (linV m c b g 0) (linV m c b g 1))

def locV (c : Dev nD) (k : Fin 8) : FVec F S144x128 .bf16 := locBG m c (Fin.ofNat 2 (k.val / 4)) (k.val % 4)

/-- Stream `k` on device `c` after `i` steps. -/
def stv (k : Fin 8) : ℕ → Dev nD → FVec F S144x128 .bf16
  | 0, c => locV m c k
  | i + 1, c => addV (stv k i c) (stv k i (ptn k (Fin.ofNat 5 i) c))

/-- The two rows of the result on device `c`. -/
def outB (c : Dev nD) (b : Fin 2) : FVec F S1x128x512 .f32 :=
  outV (stv m (Fin.ofNat 8 (4 * b.val)) 5 c) (stv m (Fin.ofNat 8 (4 * b.val + 1)) 5 c) (stv m (Fin.ofNat 8 (4 * b.val + 2)) 5 c)
    (stv m (Fin.ofNat 8 (4 * b.val + 3)) 5 c) (woM.view.readAt (Elt F) wR.toLoadRect (wov m c))

def outAt (c : Dev nD) : (cc0_stg5_0 : Ref sig .tc).ty.Contents (Elt F) := fun x => outB m c (x 0) (ix3 0 (x 1) (x 2))

/-! ## Cells -/

abbrev barCell (c : Dev nD) : GSem nD τ sig := ((c : Thread nD τ), .reg barS)
abbrev sndCell (c : Dev nD) (k : Fin 8) (i : Fin 5) : GSem nD τ sig := ((c : Thread nD τ), .dma (sndS k i))
abbrev rcvCell (c : Dev nD) (k : Fin 8) (i : Fin 5) : GSem nD τ sig := ((c : Thread nD τ), .dma (rcvS k i))

theorem sndS_val : ∀ (k : Fin 8) (i : Fin 5), (sndS k i).val = 6 + (5 * k.val + i.val) := by decide
theorem rcvS_val : ∀ (k : Fin 8) (i : Fin 5), (rcvS k i).val = 46 + (5 * k.val + i.val) := by decide

/-- The kernel's own copies' semaphores, and with the barrier's all of its cells. -/
abbrev OI : Type := Bool × Fin 8 × Fin 5
abbrev CI : Type := Option OI
def osem : OI → SemLoc sig
  | (false, k, i) => .dma (sndS k i)
  | (true, k, i) => .dma (rcvS k i)
def csem : CI → SemLoc sig
  | none => .reg barS
  | some o => osem o

theorem osem_injective : Function.Injective osem := by
  rintro ⟨b, k, i⟩ ⟨b', k', i'⟩ h
  have hv : ∀ {a a' : DmaSem sig}, (SemLoc.dma a : SemLoc sig) = .dma a' → a.val = a'.val := fun h => by cases h; rfl
  have key : b = b' ∧ k.val = k'.val ∧ i.val = i'.val := by
    cases b <;> cases b'
    all_goals
      have := hv h
      simp only [sndS_val, rcvS_val] at this
      have := i.isLt; have := i'.isLt; have := k.isLt; have := k'.isLt
      refine ⟨?_, ?_, ?_⟩ <;> first | rfl | omega
  obtain ⟨rfl, hk, hi⟩ := key
  rw [Fin.ext hk, Fin.ext hi]

theorem csem_injective : Function.Injective csem := by
  rintro (_ | o) (_ | o') h
  · rfl
  · obtain ⟨b, k, i⟩ := o'; cases b <;> cases h
  · obtain ⟨b, k, i⟩ := o; cases b <;> cases h
  · exact congrArg some (osem_injective h)

abbrev kcell (ck : Dev nD × CI) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What one copy is worth at its semaphores. -/
@[irreducible] def N : ℕ := (rcW 0 0).view.dmaCredit
theorem N_pos : 0 < N := by unfold N; exact View.dmaCredit_pos _ (by decide)
theorem credit_rc (k : Fin 8) (i : Fin 5) : (rcW k i).view.dmaCredit = N := by unfold N; rfl
theorem credit_st (k : Fin 8) (s : Fin 2) : (stW k s).view.dmaCredit = N := by unfold N; rfl

/-! ## Payloads -/

/-- Device `c` owns slot `s` of stream `k`, or the landing place of copy `(k, i)`, at contents `X`. -/
def stO (c : Dev nD) (k : Fin 8) (s : Fin 2) (q : PosShare TreeShare) (X : FVec F S144x128 .bf16) : sProp 𝕄 :=
  owns (c : Thread nD τ) (stW k s) q X
def rcO (c : Dev nD) (k : Fin 8) (i : Fin 5) (X : FVec F S144x128 .bf16) : sProp 𝕄 :=
  owns (c : Thread nD τ) (rcW k i) fullShare X
/-- The landing place at some contents. -/
def rcE (c : Dev nD) (k : Fin 8) (i : Fin 5) : sProp 𝕄 := iprop(∃ X, rcO c k i X)

instance stO_storable (c : Dev nD) (k : Fin 8) (s : Fin 2) (q) (X : FVec F S144x128 .bf16) :
    BI.Storable (upEmb : UEmb _ 𝕄) (stO c k s q X) := by unfold stO; infer_instance
instance rcO_storable (c : Dev nD) (k : Fin 8) (i : Fin 5) (X : FVec F S144x128 .bf16) :
    BI.Storable (upEmb : UEmb _ 𝕄) (rcO c k i X) := by unfold rcO; infer_instance
instance rcE_storable (c : Dev nD) (k : Fin 8) (i : Fin 5) :
    BI.Storable (upEmb : UEmb _ 𝕄) (rcE (F := F) c k i) := by unfold rcE; infer_instance

/-- The copies along dimension `d`. -/
abbrev along (d : Fin 5) : Finset (Fin 8 × Fin 5) := Finset.univ.filter fun p => dimF p.1 p.2 = d

def barPay (c : Dev nD) (d : Fin 5) : sProp 𝕄 := bigSep (along d) fun p => rcE (nb d c) p.1 p.2
def sndPay (c : Dev nD) (k : Fin 8) (i : Fin 5) : sProp 𝕄 := stO c k (slot i.val) fullShare.right (stv m k i.val c)
def rcvPay (c : Dev nD) (k : Fin 8) (i : Fin 5) : sProp 𝕄 := rcO c k i (stv m k i.val (ptn k i c))

instance barPay_storable (c : Dev nD) (d : Fin 5) : BI.Storable (upEmb : UEmb _ 𝕄) (barPay (F := F) c d) := by unfold barPay; infer_instance
instance sndPay_storable (c : Dev nD) (k : Fin 8) (i : Fin 5) : BI.Storable (upEmb : UEmb _ 𝕄) (sndPay m c k i) := by unfold sndPay; infer_instance
instance rcvPay_storable (c : Dev nD) (k : Fin 8) (i : Fin 5) : BI.Storable (upEmb : UEmb _ 𝕄) (rcvPay m c k i) := by unfold rcvPay; infer_instance

/-! ## The schedule -/

/-- The copy a number below forty names. -/
abbrev cpK (n : ℕ) : Fin 8 := Fin.ofNat 8 (n / 5)
abbrev cpI (n : ℕ) : Fin 5 := Fin.ofNat 5 n

theorem cpK_of (k : Fin 8) (i : Fin 5) : cpK (5 * k.val + i.val) = k := Fin.ext (by have := i.isLt; have := k.isLt; show (5 * k.val + i.val) / 5 % 8 = k.val; omega)
theorem cpI_of (k : Fin 8) (i : Fin 5) : cpI (5 * k.val + i.val) = i := Fin.ext (by have := i.isLt; show (5 * k.val + i.val) % 5 = i.val; omega)

/-- The duties of a semaphore in the only round. -/
def dut : SemLoc sig → Finset (Fin 5)
  | .reg s => if s = barS then Finset.univ else ∅
  | .dma q => if 6 ≤ q.val then {0} else ∅

def pay (c : Dev nD) : SemLoc sig → Fin 5 → sProp 𝕄
  | .reg _, d => barPay c d
  | .dma q, _ => if 46 ≤ q.val then rcvPay m c (cpK (q.val - 46)) (cpI (q.val - 46)) else sndPay m c (cpK (q.val - 6)) (cpI (q.val - 6))

def amt : SemLoc sig → ℕ
  | .reg _ => 1
  | .dma _ => N

def Rd : Rounds.Schedule (GSem nD τ sig) (Fin 5) 𝕄 where
  duties g r := if r = 0 ∧ g.1.2 = .tc then dut g.2 else ∅
  unitless _ := False
  amount g _ _ := amt g.2
  payload g _ d := pay m g.1.1 g.2 d
  amount_pos g _ _ _ := by
    obtain ⟨t, s⟩ := g
    cases s
    · exact Nat.one_pos
    · exact N_pos

instance Rd_payload_storable (g : GSem nD τ sig) (r : ℕ) (d : Fin 5) : BI.Storable (upEmb : UEmb _ 𝕄) ((Rd m).payload g r d) := by
  show BI.Storable upEmb (pay m g.1.1 g.2 d)
  obtain ⟨t, s⟩ := g
  cases s with
  | reg s => show BI.Storable upEmb (barPay (F := F) t.1 d); infer_instance
  | dma q =>
    show BI.Storable upEmb (if 46 ≤ q.val then rcvPay m t.1 (cpK (q.val - 46)) (cpI (q.val - 46)) else sndPay m t.1 (cpK (q.val - 6)) (cpI (q.val - 6)))
    split <;> infer_instance

section Sched
variable (c : Dev nD) (k : Fin 8) (i : Fin 5)

theorem duties_bar : (Rd m).duties (barCell c) 0 = Finset.univ := rfl
theorem duties_snd : (Rd m).duties (sndCell c k i) 0 = {0} := by
  have e : (Rd m).duties (sndCell c k i) 0 = dut (.dma (sndS k i)) := rfl
  rw [e]; exact if_pos (by rw [sndS_val]; omega)
theorem duties_rcv : (Rd m).duties (rcvCell c k i) 0 = {0} := by
  have e : (Rd m).duties (rcvCell c k i) 0 = dut (.dma (rcvS k i)) := rfl
  rw [e]; exact if_pos (by rw [rcvS_val]; omega)
theorem duties_later (g : GSem nD τ sig) : ∀ r, 1 ≤ r → (Rd m).duties g r = ∅ := fun r hr => if_neg fun h => by omega

theorem amount_bar (d : Fin 5) : (Rd m).amount (barCell c) 0 d = 1 := rfl
theorem amount_snd (d : Fin 5) : (Rd m).amount (sndCell c k i) 0 d = N := rfl
theorem amount_rcv (d : Fin 5) : (Rd m).amount (rcvCell c k i) 0 d = N := rfl

theorem expect_bar : (Rd m).expect (barCell c) 0 = 5 := by
  unfold Schedule.expect Schedule.amountOf
  rw [duties_bar, Finset.sum_congr rfl fun d _ => amount_bar m c d]; rfl
theorem expect_snd : (Rd m).expect (sndCell c k i) 0 = N := by
  unfold Schedule.expect Schedule.amountOf; rw [duties_snd, Finset.sum_singleton, amount_snd]
theorem expect_rcv : (Rd m).expect (rcvCell c k i) 0 = N := by
  unfold Schedule.expect Schedule.amountOf; rw [duties_rcv, Finset.sum_singleton, amount_rcv]

theorem payload_bar (d : Fin 5) : (Rd m).payload (barCell c) 0 d = barPay c d := rfl
theorem payload_snd (d : Fin 5) : (Rd m).payload (sndCell c k i) 0 d = sndPay m c k i := by
  show (if 46 ≤ (sndS k i).val then _ else sndPay m c (cpK ((sndS k i).val - 6)) (cpI ((sndS k i).val - 6))) = _
  rw [if_neg (by rw [sndS_val]; have := k.isLt; have := i.isLt; omega), sndS_val, Nat.add_sub_cancel_left, cpK_of, cpI_of]
theorem payload_rcv (d : Fin 5) : (Rd m).payload (rcvCell c k i) 0 d = rcvPay m c k i := by
  show (if 46 ≤ (rcvS k i).val then rcvPay m c (cpK ((rcvS k i).val - 46)) (cpI ((rcvS k i).val - 46)) else _) = _
  rw [if_pos (by rw [rcvS_val]; omega), rcvS_val, Nat.add_sub_cancel_left, cpK_of, cpI_of]

theorem rest_bar : bigSep ((Rd m).duties (barCell c) 0 \ ∅) (fun d => (Rd m).payload (barCell c) 0 d) = bigSep Finset.univ fun d => barPay (F := F) c d := by
  rw [Finset.sdiff_empty, duties_bar]; rfl
theorem rest_snd : bigSep ((Rd m).duties (sndCell c k i) 0 \ ∅) (fun d => (Rd m).payload (sndCell c k i) 0 d) = sndPay m c k i := by
  rw [Finset.sdiff_empty, duties_snd, bigSep_singleton, payload_snd]
theorem rest_rcv : bigSep ((Rd m).duties (rcvCell c k i) 0 \ ∅) (fun d => (Rd m).payload (rcvCell c k i) 0 d) = rcvPay m c k i := by
  rw [Finset.sdiff_empty, duties_rcv, bigSep_singleton, payload_rcv]

end Sched

/-! ## What is owed, and the levels -/

/-- Copy number `e` in the order of the program: stream `e % 8`, step `e / 8`. -/
abbrev eK (e : ℕ) : Fin 8 := Fin.ofNat 8 e
abbrev eI (e : ℕ) : Fin 5 := Fin.ofNat 5 (e / 8)

/-- What device `c` owes with its last `n` copies still to come. -/
def owS (c : Dev nD) : ℕ → CellTallies nD τ sig Unit
  | 0 => 0
  | n + 1 => owS c n + tallyAt (rcvCell (ptn (eK (39 - n)) (eI (39 - n)) c) (eK (39 - n)) (eI (39 - n))) () N

/-- With its last `n` signals still to come too. -/
def owB (c : Dev nD) : ℕ → CellTallies nD τ sig Unit
  | 0 => owS c 40
  | n + 1 => owB c n + tallyAt (barCell (nb (Fin.ofNat 5 (4 - n)) c)) () 1

def L (g : GSem nD τ sig) : Finset Unit := if g.1.2 = .tc then {()} else ∅
def lv (g : GSem nD τ sig) (_ : Unit) : ℕ := match g.2 with
  | .reg _ => 1
  | .dma q => if 46 ≤ q.val then 2 + (8 * ((q.val - 46) % 5) + (q.val - 46) / 5) else 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) (k : Fin 8) (i : Fin 5) : lv (rcvCell c k i) () = 2 + (8 * i.val + k.val) := by
  show (if 46 ≤ (rcvS k i).val then 2 + (8 * (((rcvS k i).val - 46) % 5) + ((rcvS k i).val - 46) / 5) else 0) = _
  rw [if_pos (by rw [rcvS_val]; omega), rcvS_val]; have := i.isLt; have := k.isLt; omega

theorem owS_pos {c : Dev nD} {n : ℕ} (hn : n ≤ 40) {g : GSem nD τ sig} {u : Unit} (h : 0 < owS c n g u) :
    g.1.2 = .tc ∧ 2 + (40 - n) ≤ lv g u := by
  induction n with
  | zero => exact absurd h (Nat.lt_irrefl 0)
  | succ n ih =>
    unfold owS at h
    rw [Pi.add_apply, Finsupp.add_apply, tallyAt_apply] at h
    by_cases hg : g = rcvCell (ptn (eK (39 - n)) (eI (39 - n)) c) (eK (39 - n)) (eI (39 - n)) ∧ u = ()
    · rw [hg.1]
      refine ⟨rfl, ?_⟩
      rw [lv_rcv]
      show _ ≤ 2 + (8 * ((39 - n) / 8 % 5) + (39 - n) % 8)
      omega
    · rw [if_neg hg, Nat.add_zero] at h
      have := ih (by omega) h
      exact ⟨this.1, by omega⟩

theorem owB_pos {c : Dev nD} {n : ℕ} {g : GSem nD τ sig} {u : Unit} (h : 0 < owB c n g u) : g.1.2 = .tc ∧ 1 ≤ lv g u := by
  induction n with
  | zero => have := owS_pos le_rfl h; exact ⟨this.1, by omega⟩
  | succ n ih =>
    unfold owB at h
    rw [Pi.add_apply, Finsupp.add_apply, tallyAt_apply] at h
    by_cases hg : g = barCell (nb (Fin.ofNat 5 (4 - n)) c) ∧ u = ()
    · rw [hg.1]; exact ⟨rfl, le_rfl⟩
    · rw [if_neg hg, Nat.add_zero] at h; exact ih h

/-- A wait at a level no higher than `b` is admitted while everything owed lies above `b`. -/
theorem mayWait_cut (c : Dev nD) (sm : SemLoc sig) (O : CellTallies nD τ sig Unit) (b : ℕ) (hb : lv ((c : Thread nD τ), sm) () ≤ b)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem mayWait_bar (c : Dev nD) : (levAts L lv : sProp 𝕄) ⊢ MayWait (c : Thread nD τ) (.reg barS) () (owS c 40) :=
  mayWait_cut c _ _ 1 le_rfl fun g u h => by have := owS_pos le_rfl h; exact ⟨this.1, by omega⟩

/-- The wait for copy `(k, i)`'s arrival, the device's own copies up to `(k, i)`, and those of the streams below `k` of the
    next step, being out. -/
theorem mayWait_rcv (c : Dev nD) (k : Fin 8) (i : Fin 5) (n : ℕ) (hn : n + (8 * i.val + k.val) < 40) :
    (levAts L lv : sProp 𝕄) ⊢ MayWait (c : Thread nD τ) (.dma (rcvS k i)) () (owS c n) :=
  mayWait_cut c _ _ (2 + (8 * i.val + k.val)) (le_of_eq (lv_rcv c k i)) fun g u h => by
    have := owS_pos (by omega) h; exact ⟨this.1, by omega⟩

theorem mayWait_zero (c : Dev nD) (sm : SemLoc sig) (n : ℕ) (hn : n ≤ 40) (h0 : lv ((c : Thread nD τ), sm) () = 0) :
    (levAts L lv : sProp 𝕄) ⊢ MayWait (c : Thread nD τ) sm () (owS c n) :=
  mayWait_cut c _ _ 0 (le_of_eq h0) fun g u h => by have := owS_pos hn h; exact ⟨this.1, by omega⟩

theorem mayWait_stage (c : Dev nD) (q : DmaSem sig) (hq : q.val < 46) (O : CellTallies nD τ sig Unit) (hO : O = owB c 5 ∨ O = 0) :
    (levAts L lv : sProp 𝕄) ⊢ MayWait (c : Thread nD τ) (.dma q) () O := by
  refine mayWait_cut c _ _ 0 (le_of_eq (if_neg (by omega))) fun g u h => ?_
  rcases hO with rfl | rfl
  · have := owB_pos h; exact ⟨this.1, by omega⟩
  · exact absurd h (Nat.lt_irrefl 0)

theorem lv_snd (c : Dev nD) (k : Fin 8) (i : Fin 5) : lv (sndCell c k i) () = 0 :=
  if_neg (by rw [sndS_val]; have := i.isLt; have := k.isLt; omega)

end Cert.XAttn

end
-- ==== Proof.Windows.lean ====
/-
# Loads and stores through the windows

A device owns the two scratch buffers window by window: slot `s` of stream `k`, and the landing place of copy `(k, i)`.
Here are the rules of a load and a store of a whole window, and of the three stores that fill slot 0 of a stream with its
local sums.
-/
module

public import proofs.«01_k».proof.Proof.Protocol

@[expose] public section

noncomputable section

namespace Cert.XAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-- The weakest precondition of a part of the body on device `c`. -/
abbrev WP (c : Dev nD) {α : Type} (p : PR F α) (Q : α → sProp 𝕄) : sProp 𝕄 :=
  wp frame (wpE (defs₀ (F := F)) 𝒱₀ (c : Thread nD τ) none) Set.univ p Q

theorem WP_bind (c : Dev nD) {α β : Type} (p : PR F α) (k : α → PR F β) (Q : β → sProp 𝕄) :
    WP c (p >>= k) Q = WP c p fun x => WP c (k x) Q := wp_bind _ _ _ _ _ _

theorem WP_pure (c : Dev nD) {α : Type} (x : α) (Q : α → sProp 𝕄) : Q x ⊢ WP c (pure x) Q := by
  show _ ⊢ wp _ _ _ (Prog.ret x) _
  rw [wp_ret]; iintro H; imodintro; iexact H

/-! ## A window's elements -/

section Any

variable {sh s' : Shape} (M : Memref sig .tc .vmem sh .bf16) (r : Rect sh) (hr : ∀ a, r.stride a = 1) (hq : r.shape.Squeezes s')
  (hc : r.shape.ShapeCasts s')

theorem window_set : ((M.slice r hr).squeeze s' hq).view.set = (M.access r).set := View.set_reshape _ _

theorem window_load (c : Dev nD) (q : PosShare TreeShare) (X : FVec F s' .bf16) (hl : M.view.LoadsAt r.toLoadRect)
    (Q : Vec F r.shape .bf16 → sProp 𝕄) :
    owns (c : Thread nD τ) ((M.slice r hr).squeeze s' hq) q X
      ⊢ iprop((∀ a, ⌜shapeCast s' a hc = X⌝ -∗ owns (c : Thread nD τ) ((M.slice r hr).squeeze s' hq) q X -∗ Q a)
        -∗ WP c (Prog.lift (.load M r.toLoadRect hl)) Q) := by
  iintro H Hk
  ihave H' := (show owns (c : Thread nD τ) ((M.slice r hr).squeeze s' hq) q X
    ⊢ iprop(∃ f, ⌜((M.slice r hr).squeeze s' hq).view.read (Elt F) f = X⌝ ∗ (((M.slice r hr).squeeze s' hq).view.loc (c : Thread nD τ) ↦[((M.slice r hr).squeeze s' hq).view.set]{q} f)) from .rfl) $$ H
  icases H' with ⟨%f, %hf, H⟩
  unfold WP Prog.lift
  iapply (wp_load_rect 𝒱₀ (c : Thread nD τ) none Set.univ (m := M) (r := r) (hl := hl) (q := q) (f := f) (le_of_eq (window_set M r hr hq).symm)) $$ H
  iintro H
  rw [wp_ret]; imodintro
  iapply Hk
  · ipureintro; exact hf
  · subst hf; iapply (owns_intro (c : Thread nD τ) ((M.slice r hr).squeeze s' hq) q f); iexact H

theorem window_store (c : Dev nD) (X : FVec F s' .bf16) (w : Vec F r.shape .bf16) (hx : (M.access r).Stores Finset.univ)
    (hm : (Finset.univ : Finset r.shape.Idx) = Finset.univ ∨ ∀ a, r.stride a = 1) (Q : PUnit → sProp 𝕄) :
    owns (c : Thread nD τ) ((M.slice r hr).squeeze s' hq) fullShare X
      ⊢ iprop((owns (c : Thread nD τ) ((M.slice r hr).squeeze s' hq) fullShare (shapeCast s' w hc) -∗ Q ⟨⟩)
        -∗ WP c (Prog.lift (.store M r w Finset.univ hx hm)) Q) := by
  iintro H Hk
  ihave H' := (show owns (c : Thread nD τ) ((M.slice r hr).squeeze s' hq) fullShare X
    ⊢ iprop(∃ f, ⌜((M.slice r hr).squeeze s' hq).view.read (Elt F) f = X⌝ ∗ (((M.slice r hr).squeeze s' hq).view.loc (c : Thread nD τ) ↦[((M.slice r hr).squeeze s' hq).view.set]{fullShare} f)) from .rfl) $$ H
  icases H' with ⟨%f, -, H⟩
  unfold WP Prog.lift
  iapply (wp_store 𝒱₀ (c : Thread nD τ) none Set.univ (m := M) (r := r) (w := w) (Mk := Finset.univ) (hx := hx) (hm := hm) (f := f) (le_of_eq (window_set M r hr hq).symm)) $$ H
  iintro H
  rw [wp_ret]; imodintro
  iapply Hk
  have e : ((M.slice r hr).squeeze s' hq).view.read (Elt F) ((M.access r).write (Elt F) f w Finset.univ) = shapeCast s' w hc := by
    have e' : (M.access r).read (Elt F) ((M.access r).write (Elt F) f w Finset.univ) = w :=
      funext fun x => View.read_write_of_mem (v := M.access r) f w (Finset.mem_univ x)
    exact (Memref.read_squeeze_slice M r hr hq hc _).trans (congrArg (fun a => shapeCast s' a hc) e')
  rw [← e]
  iapply (owns_intro (c : Thread nD τ) ((M.slice r hr).squeeze s' hq) fullShare ((M.access r).write (Elt F) f w Finset.univ)); iexact H

end Any

/-! ## The two scratch buffers' windows -/

theorem load_st (c : Dev nD) (k : Fin 8) (s : Fin 2) (q : PosShare TreeShare) (X : FVec F S144x128 .bf16) (Q : Vec F S1x1x144x128 .bf16 → sProp 𝕄) :
    stO c k s q X ⊢ iprop((∀ a, ⌜sq a = X⌝ -∗ stO c k s q X -∗ Q a) -∗ WP c (loadSt k s) Q) :=
  window_load stM (stR k s) (fun _ => rfl) squeezes_S1x1x144x128_S144x128 shapeCasts_S1x1x144x128_S144x128 c q X _ Q

theorem load_rc (c : Dev nD) (k : Fin 8) (i : Fin 5) (X : FVec F S144x128 .bf16) (Q : Vec F S1x1x144x128 .bf16 → sProp 𝕄)
    (hl : rcM.view.LoadsAt (rcR k i).toLoadRect) :
    rcO c k i X ⊢ iprop((∀ a, ⌜sq a = X⌝ -∗ rcO c k i X -∗ Q a) -∗ WP c (Prog.lift (.load rcM (rcR k i).toLoadRect hl)) Q) :=
  window_load rcM (rcR k i) (fun _ => rfl) squeezes_S1x1x144x128_S144x128 shapeCasts_S1x1x144x128_S144x128 c fullShare X hl Q

theorem store_st (c : Dev nD) (k : Fin 8) (s : Fin 2) (X : FVec F S144x128 .bf16) (w : Vec F S1x1x144x128 .bf16)
    (hx : (stM.access (stR k s)).Stores Finset.univ) (hm : (Finset.univ : Finset (stR k s).shape.Idx) = Finset.univ ∨ ∀ a, (stR k s).stride a = 1) (Q : PUnit → sProp 𝕄) :
    stO c k s fullShare X ⊢ iprop((stO c k s fullShare (sq w) -∗ Q ⟨⟩) -∗ WP c (Prog.lift (.store stM (stR k s) w Finset.univ hx hm)) Q) :=
  window_store stM (stR k s) (fun _ => rfl) squeezes_S1x1x144x128_S144x128 shapeCasts_S1x1x144x128_S144x128 c X w hx hm Q

/-- One accumulation: the arrived sums added to the stream's. -/
theorem acc_step (c : Dev nD) (k : Fin 8) (i : Fin 5) (q : PosShare TreeShare) (A B Z : FVec F S144x128 .bf16) (Q : PUnit → sProp 𝕄) :
    iprop(stO c k (slot i.val) q A ∗ rcO c k i B ∗ stO c k (slot (i.val + 1)) fullShare Z)
      ⊢ iprop((iprop(stO c k (slot i.val) q A ∗ rcO c k i B ∗ stO c k (slot (i.val + 1)) fullShare (addV A B)) -∗ Q ⟨⟩) -∗ WP c (accP k i) Q) := by
  iintro ⟨HA, HB, HZ⟩ Hk
  unfold accP
  rw [WP_bind]
  iapply (load_st c k (slot i.val) q A) $$ HA
  iintro %a %ha HA
  rw [WP_bind]
  iapply (load_rc c k i B) $$ HB
  iintro %b %hb HB
  rw [WP_bind]
  iapply (load_st c k (slot (i.val + 1)) fullShare Z) $$ HZ
  iintro %z - HZ
  iapply (store_st c k (slot (i.val + 1)) Z) $$ HZ
  iintro HZ
  iapply Hk
  have e : sq (addP a b) = addV A B := by
    rw [← ha, ← hb]; exact shapeCast_shapeCast _ _ _
  rw [e]
  isplitl [HA]; · iexact HA
  isplitl [HB] <;> iassumption

/-! ## Filling slot 0 with the local sums -/

theorem sub_num (k : Fin 8) (j : Fin 2) : (stM.access (numR k j)).set ⊆ (stW k 0).view.set := by
  rw [show (stW k 0).view.set = (stM.access (stR k 0)).set from window_set stM (stR k 0) (fun _ => rfl) squeezes_S1x1x144x128_S144x128, View.set_slice, View.set_slice]
  refine Finset.map_subset_map.mpr fun y hy => ?_
  rw [Rect.mem_set_unit] at hy ⊢
  intro a; have := hy a
  fin_cases a <;> simp at this ⊢ <;> omega

theorem sub_den (k : Fin 8) : (stM.access (denR k)).set ⊆ (stW k 0).view.set := by
  rw [show (stW k 0).view.set = (stM.access (stR k 0)).set from window_set stM (stR k 0) (fun _ => rfl) squeezes_S1x1x144x128_S144x128, View.set_slice, View.set_slice]
  refine Finset.map_subset_map.mpr fun y hy => ?_
  rw [Rect.mem_set_unit] at hy ⊢
  intro a; have := hy a
  fin_cases a <;> simp at this ⊢ <;> omega

/-- The stores of a head's weighted sums and of the denominators. -/
abbrev pcNum (k : Fin 8) (j : Fin 2) (n : FVec F S1x1x64x128 .bf16) : View.Piece (Elt F) S8x2x144x128 .bf16 := ⟨numR k j, n⟩
abbrev pcDen (k : Fin 8) (n : FVec F S1x1x16x128 .bf16) : View.Piece (Elt F) S8x2x144x128 .bf16 := ⟨denR k, n⟩

/-- The three stores, the last one first. -/
def pcs (k : Fin 8) (n0 n1 : FVec F S1x1x64x128 .bf16) (dn : FVec F S1x1x16x128 .bf16) : List (View.Piece (Elt F) S8x2x144x128 .bf16) :=
  [pcDen k dn, pcNum k 1 n1, pcNum k 0 n0]

/-- What slot 0 reads, element by element. -/
theorem slot0_apply (k : Fin 8) (f : stM.view.ty.Contents (Elt F)) (p : Fin 144) (q : Fin 128) :
    (stW k 0).view.read (Elt F) f (ix2 p q) = stM.view.read (Elt F) f (ix4 k 0 p q) := by
  refine (congrFun (Memref.read_squeeze_slice stM (stR k 0) (fun _ => rfl) squeezes_S1x1x144x128_S144x128 shapeCasts_S1x1x144x128_S144x128 f) (ix2 p q)).trans ?_
  refine (shapeCast_apply _ _ _ (ix4 0 0 p q) ?_).trans ?_
  · rw [Shape.rowMajor_val_four, Shape.rowMajor_val_two]
    show ((0 * 1 + 0) * 144 + p.val) * 128 + q.val = p.val * 128 + q.val
    omega
  · refine congrArg (stM.view.read (Elt F) f) (funext fun a => Fin.ext ?_)
    fin_cases a
    · show k.val + 1 * 0 = k.val; omega
    · rfl
    · show 0 + 1 * p.val = p.val; omega
    · show 0 + 1 * q.val = q.val; omega

theorem read_local (k : Fin 8) (f : stM.view.ty.Contents (Elt F)) (n0 n1 : FVec F S1x1x64x128 .bf16) (dn : FVec F S1x1x16x128 .bf16) :
    (stW k 0).view.read (Elt F) (stM.view.writes (Elt F) f (pcs k n0 n1 dn)) = rowsV n0 n1 dn := by
  funext y
  obtain ⟨p, q, rfl⟩ : ∃ p q, y = ix2 p q := ⟨y 0, y 1, eq_ix2 y⟩
  rw [slot0_apply]
  unfold pcs
  by_cases h0 : p.val < 64
  · rw [show rowsV n0 n1 dn (ix2 p q) = n0 (ix4 0 0 ⟨p.val, h0⟩ q) from dif_pos h0,
      View.read_writes_cons_miss_of_axis _ f _ _ _ 2 128 16 rfl rfl rfl (.inl (show p.val < 128 by omega)),
      View.read_writes_cons_miss_of_axis _ f _ _ _ 2 64 64 rfl rfl rfl (.inl (show p.val < 64 from h0))]
    refine View.read_writes_cons_hit_of_coords _ f (numR k 0) n0 [] (ix4 0 0 ⟨p.val, h0⟩ q) _ fun a => ?_
    fin_cases a
    · show k.val = k.val + 1 * 0; omega
    · rfl
    · show p.val = 0 + 1 * p.val; omega
    · show q.val = 0 + 1 * q.val; omega
  by_cases h1 : p.val < 128
  · rw [show rowsV n0 n1 dn (ix2 p q) = n1 (ix4 0 0 ⟨p.val - 64, by omega⟩ q) from (dif_neg h0).trans (dif_pos h1),
      View.read_writes_cons_miss_of_axis _ f _ _ _ 2 128 16 rfl rfl rfl (.inl (show p.val < 128 by omega))]
    refine View.read_writes_cons_hit_of_coords _ f (numR k 1) n1 _ (ix4 0 0 ⟨p.val - 64, by omega⟩ q) _ fun a => ?_
    fin_cases a
    · show k.val = k.val + 1 * 0; omega
    · rfl
    · show p.val = 64 + 1 * (p.val - 64); omega
    · show q.val = 0 + 1 * q.val; omega
  · have := p.isLt
    rw [show rowsV n0 n1 dn (ix2 p q) = dn (ix4 0 0 ⟨p.val - 128, by omega⟩ q) from (dif_neg h0).trans (dif_neg h1)]
    refine View.read_writes_cons_hit_of_coords _ f (denR k) dn _ (ix4 0 0 ⟨p.val - 128, by omega⟩ q) _ fun a => ?_
    fin_cases a
    · show k.val = k.val + 1 * 0; omega
    · rfl
    · show p.val = 128 + 1 * (p.val - 128); omega
    · show q.val = 0 + 1 * q.val; omega

/-! ## The input buffers, held whole -/

/-- Device `c`'s staging buffer `b` at contents `f`. -/
abbrev buf (c : Dev nD) (b : Ref sig .tc) (f : b.ty.Contents (Elt F)) : sProp 𝕄 := ((c : Thread nD τ).loc b) ↦{fullShare} f

theorem load_buf {sh : Shape} {e : EltTy} (c : Dev nD) (M : Memref sig .tc .vmem sh e) (r : LoadRect sh) (hl : M.view.LoadsAt r)
    (f : Buf (Elt F) (M.view.loc (c : Thread nD τ))) (Q : (r.shape.Idx → Elt F e) → sProp 𝕄) :
    (M.view.loc (c : Thread nD τ) ↦{fullShare} f)
      ⊢ iprop(((M.view.loc (c : Thread nD τ) ↦{fullShare} f) -∗ Q (M.view.readAt (Elt F) r f)) -∗ WP c (Prog.lift (.load M r hl)) Q) := by
  iintro H Hk
  unfold WP Prog.lift
  iapply (wp_load 𝒱₀ (c : Thread nD τ) none Set.univ (m := M) (r := r) (hl := hl) (q := fullShare) (f := f) (Finset.subset_univ _)) $$ H
  iintro H
  rw [wp_ret]; imodintro
  iapply Hk; iexact H

/-- The queries of a batch row. -/
theorem loadQ_spec (c : Dev nD) (b : Fin 2) (x : (cc0_stg0_0 : Ref sig .tc).ty.Contents (Elt F)) (w : (cc0_stg1_0 : Ref sig .tc).ty.Contents (Elt F))
    (Q : FVec F S128x512 .bf16 → sProp 𝕄) :
    iprop(buf c cc0_stg0_0 x ∗ buf c cc0_stg1_0 w)
      ⊢ iprop((iprop(buf c cc0_stg0_0 x ∗ buf c cc0_stg1_0 w) -∗ Q (qAll (xM.view.readAt (Elt F) (xR b).toLoadRect x) (wqM.view.readAt (Elt F) wR.toLoadRect w)))
        -∗ WP c (loadQ b) Q) := by
  iintro ⟨Hx, Hw⟩ Hk
  unfold loadQ
  rw [WP_bind]
  iapply (load_buf c xM (xR b).toLoadRect _ x) $$ Hx
  iintro Hx
  rw [WP_bind]
  iapply (load_buf c wqM wR.toLoadRect _ w) $$ Hw
  iintro Hw
  iapply WP_pure
  iapply Hk
  isplitl [Hx] <;> iassumption

/-- Slot 0 of stream `k` on device `c`, whose buffer holds `f` there. -/
def part (c : Dev nD) (k : Fin 8) (f : Buf (Elt F) (stM.view.loc (c : Thread nD τ))) : sProp 𝕄 :=
  stM.view.loc (c : Thread nD τ) ↦[(stW k 0).view.set]{fullShare} f

theorem part_of (c : Dev nD) (k : Fin 8) (Z : FVec F S144x128 .bf16) :
    stO c k 0 fullShare Z ⊢ (iprop(∃ f, part c k (stM.view.writes (Elt F) f [])) : sProp 𝕄) := by
  unfold stO part
  iintro H
  ihave H' := (show owns (c : Thread nD τ) (stW k 0) fullShare Z
    ⊢ (iprop(∃ f, ⌜(stW k 0).view.read (Elt F) f = Z⌝ ∗ ((stW k 0).view.loc (c : Thread nD τ) ↦[(stW k 0).view.set]{fullShare} f)) : sProp 𝕄) from .rfl) $$ H
  icases H' with ⟨%f, -, H⟩
  iexists f; iexact H

theorem of_part (c : Dev nD) (k : Fin 8) (f : Buf (Elt F) (stM.view.loc (c : Thread nD τ))) (n0 n1 : FVec F S1x1x64x128 .bf16) (dn : FVec F S1x1x16x128 .bf16) :
    part c k (stM.view.writes (Elt F) f (pcs k n0 n1 dn)) ⊢ (stO c k 0 fullShare (rowsV n0 n1 dn) : sProp 𝕄) := by
  rw [← read_local k f]
  exact owns_intro (c : Thread nD τ) (stW k 0) fullShare _

/-- Loads of elements of a buffer part of which is held. -/
theorem load_part (c : Dev nD) (k : Fin 8) (r : Rect S8x2x144x128) (hr : (stM.access r).set ⊆ (stW k 0).view.set) (hl : stM.view.LoadsAt r.toLoadRect)
    (f : Buf (Elt F) (stM.view.loc (c : Thread nD τ))) (Q : Vec F r.shape .bf16 → sProp 𝕄) :
    part c k f ⊢ iprop((∀ a, part c k f -∗ Q a) -∗ WP c (Prog.lift (.load stM r.toLoadRect hl)) Q) := by
  unfold part
  iintro H Hk
  unfold WP Prog.lift
  iapply (wp_load_rect 𝒱₀ (c : Thread nD τ) none Set.univ (m := stM) (r := r) (hl := hl) (q := fullShare) (f := f) hr) $$ H
  iintro H
  rw [wp_ret]; imodintro
  iapply Hk; iexact H

theorem store_part (c : Dev nD) (k : Fin 8) (r : Rect S8x2x144x128) (hr : (stM.access r).set ⊆ (stW k 0).view.set) (w : r.shape.Idx → Elt F .bf16)
    (hx : (stM.access r).Stores Finset.univ) (hm : (Finset.univ : Finset r.shape.Idx) = Finset.univ ∨ ∀ a, r.stride a = 1)
    (f : Buf (Elt F) (stM.view.loc (c : Thread nD τ))) (L : List (View.Piece (Elt F) S8x2x144x128 .bf16)) (Q : PUnit → sProp 𝕄) :
    part c k (stM.view.writes (Elt F) f L)
      ⊢ iprop((part c k (stM.view.writes (Elt F) f (⟨r, w⟩ :: L)) -∗ Q ⟨⟩) -∗ WP c (Prog.lift (.store stM r w Finset.univ hx hm)) Q) := by
  unfold part
  iintro H Hk
  unfold WP Prog.lift
  iapply (wp_store_writes 𝒱₀ (c : Thread nD τ) none Set.univ (m := stM) (r := r) (w := w) (hx := hx) (hm := hm) (f := f) (L := L) hr) $$ H
  iintro H
  rw [wp_ret]; imodintro
  iapply Hk; iexact H

/-- The store of a head's weighted sums, and of the denominators. -/
theorem store_num (c : Dev nD) (k : Fin 8) (j : Fin 2) (w : FVec F S1x1x64x128 .bf16)
    (hx : (stM.access (numR k j)).Stores Finset.univ) (hm : (Finset.univ : Finset (numR k j).shape.Idx) = Finset.univ ∨ ∀ a, (numR k j).stride a = 1)
    (f : Buf (Elt F) (stM.view.loc (c : Thread nD τ))) (L : List (View.Piece (Elt F) S8x2x144x128 .bf16)) (Q : PUnit → sProp 𝕄) :
    part c k (stM.view.writes (Elt F) f L)
      ⊢ iprop((part c k (stM.view.writes (Elt F) f (pcNum k j w :: L)) -∗ Q ⟨⟩) -∗ WP c (Prog.lift (.store stM (numR k j) w Finset.univ hx hm)) Q) :=
  store_part c k (numR k j) (sub_num k j) w hx hm f L Q

theorem store_den (c : Dev nD) (k : Fin 8) (w : FVec F S1x1x16x128 .bf16)
    (hx : (stM.access (denR k)).Stores Finset.univ) (hm : (Finset.univ : Finset (denR k).shape.Idx) = Finset.univ ∨ ∀ a, (denR k).stride a = 1)
    (f : Buf (Elt F) (stM.view.loc (c : Thread nD τ))) (L : List (View.Piece (Elt F) S8x2x144x128 .bf16)) (Q : PUnit → sProp 𝕄) :
    part c k (stM.view.writes (Elt F) f L)
      ⊢ iprop((part c k (stM.view.writes (Elt F) f (pcDen k w :: L)) -∗ Q ⟨⟩) -∗ WP c (Prog.lift (.store stM (denR k) w Finset.univ hx hm)) Q) :=
  store_part c k (denR k) (sub_den k) w hx hm f L Q

end Cert.XAttn

end
-- ==== Proof.Rules.lean ====
/-
# The rules of the waits, the copies and the local sums

What a device holds for copy `(k, i)` before and after its arrival (`rcvAt`), before, during and after the flight of its
own (`sndAt`); then each part of the body as a rule over these.
-/
module

public import proofs.«01_k».proof.Proof.Windows

@[expose] public section

noncomputable section

namespace Cert.XAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

/-- The levels of the cells. -/
@[irreducible] def levs : sProp 𝕄 := levAts L lv
theorem levs_eq : (levs : sProp 𝕄) = levAts L lv := by unfold levs; rfl
instance levs_persistent : BI.Persistent (levs (F := F)) := by unfold levs; infer_instance

def records (K : Dev nD × CI → ℕ) : sProp 𝕄 :=
  iprop((bigSep Finset.univ fun ck : Dev nD × CI => cellInv ER (Rd m) (K ck) (kcell ck))
    ∗ (bigSep Finset.univ fun ck : Dev nD × CI => reached ER (kcell ck) 0) ∗ levs)

instance records_persistent (K : Dev nD × CI → ℕ) : BI.Persistent (records m K) := by unfold records; infer_instance

theorem rec_inv (K : Dev nD × CI → ℕ) (ck : Dev nD × CI) : records m K ⊢ cellInv ER (Rd m) (K ck) (kcell ck) := by
  unfold records; iintro ⟨H, -, -⟩
  iapply (show (bigSep Finset.univ fun ck : Dev nD × CI => (cellInv ER (Rd m) (K ck) (kcell ck) : sProp 𝕄)) ⊢ cellInv ER (Rd m) (K ck) (kcell ck) from bigSep_elim (Finset.mem_univ ck)); iexact H
theorem rec_reached (K : Dev nD × CI → ℕ) (ck : Dev nD × CI) : records m K ⊢ reached ER (kcell ck) 0 := by
  unfold records; iintro ⟨-, H, -⟩
  iapply (show (bigSep Finset.univ fun ck : Dev nD × CI => (reached ER (kcell ck) 0 : sProp 𝕄)) ⊢ reached ER (kcell ck) 0 from bigSep_elim (Finset.mem_univ ck)); iexact H
theorem rec_lev (K : Dev nD × CI → ℕ) : records m K ⊢ levs := by
  unfold records; iintro ⟨-, -, H⟩; iexact H

/-- What device `c` owes, whatever it has waited for. -/
def ow (c : Dev nD) (O : CellTallies nD τ sig Unit) : sProp 𝕄 := iprop(∃ W, owes (c : Thread nD τ) O W)

/-! ## Waits -/

theorem cell_wait (K : Dev nD × CI → ℕ) (c : Dev nD) (o : CI) (n : ℕ) (O : CellTallies nD τ sig Unit)
    (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (csem o) n Q)
    (hn : (Rd m).expect (kcell (c, o)) 0 = n) (hO : (levs : sProp 𝕄) ⊢ MayWait (c : Thread nD τ) (csem o) () O) (Q : PUnit → sProp 𝕄) :
    iprop(records m K ∗ cred (tallyAt (kcell (c, o)) () n) ∗ atPos ER (kcell (c, o)) 0 ∅ 0 ∗ ow c O)
      ⊢ iprop((iprop(atPos ER (kcell (c, o)) 1 ∅ 0 ∗ ow c O ∗ bigSep ((Rd m).duties (kcell (c, o)) 0 \ ∅) fun d => (Rd m).payload (kcell (c, o)) 0 d) -∗ Q ⟨⟩)
        -∗ WP c (Prog.lift w) Q) := by
  iintro ⟨#HR, Hc, Hat, Ho⟩ Hk
  unfold ow
  icases Ho with ⟨%W, HO⟩
  unfold WP Prog.lift
  iapply (Rounds.wp_wait_rest_token 𝒱₀ ER (Rd m) (c : Thread nD τ) none (κ := K (c, o)) (sm := csem o) hw (Set.mem_univ _) () (O := O) (W := W) (R := 0) (m := 0)
    (T := ∅) ((Nat.zero_add n).trans hn.symm)) $$ [Hc HO Hat]
  · isplitr; · iapply (rec_inv m K (c, o)); iexact HR
    isplitl [Hc]; · iexact Hc
    isplitl [HO]; · iexact HO
    isplitr; · iapply ((rec_lev m K).trans hO); iexact HR
    iexact Hat
  iintro ⟨HO, Hat, -, Hp⟩
  rw [wp_ret]; imodintro
  iapply Hk
  isplitl [Hat]; · iexact Hat
  isplitl [HO]; · iexists _; iexact HO
  iexact Hp

/-- Copy `(k, i)` to device `c`, awaited; arrived and taken. -/
def rcvTok (c : Dev nD) (k : Fin 8) (i : Fin 5) : sProp 𝕄 := iprop(cred (tallyAt (rcvCell c k i) () N) ∗ atPos ER (rcvCell c k i) 0 ∅ 0)
def rcvEnd (c : Dev nD) (k : Fin 8) (i : Fin 5) : sProp 𝕄 := atPos ER (rcvCell c k i) 1 ∅ 0
/-- Copy `(k, i)` from device `c`: still to be sent, in flight, over. -/
def sndTok (c : Dev nD) (k : Fin 8) (i : Fin 5) : sProp 𝕄 :=
  iprop(atPos ER (sndCell c k i) 0 ∅ 0 ∗ dutyTok ER (sndCell c k i) 0 (0 : Fin 5) ∗ dutyTok ER (rcvCell (ptn k i c) k i) 0 (0 : Fin 5))
def flight (c : Dev nD) (k : Fin 8) (i : Fin 5) : sProp 𝕄 := iprop(cred (tallyAt (sndCell c k i) () N) ∗ atPos ER (sndCell c k i) 0 ∅ 0)
def sndEnd (c : Dev nD) (k : Fin 8) (i : Fin 5) : sProp 𝕄 := atPos ER (sndCell c k i) 1 ∅ 0

theorem rcv_wait (K : Dev nD × CI → ℕ) (c : Dev nD) (k : Fin 8) (i : Fin 5) (n : ℕ) (hn : n + (8 * i.val + k.val) < 40) (Q : PUnit → sProp 𝕄) :
    iprop(records m K ∗ rcvTok c k i ∗ ow c (owS c n))
      ⊢ iprop((iprop(rcvEnd c k i ∗ ow c (owS c n) ∗ rcvPay m c k i) -∗ Q ⟨⟩) -∗ WP c (waitRcv k i) Q) := by
  unfold rcvTok rcvEnd
  rw [← rest_rcv m c k i]
  iintro ⟨#HR, ⟨Hc, Hat⟩, Ho⟩ Hk
  unfold waitRcv
  iapply (cell_wait m K c (some (true, k, i)) N (owS c n) _ (fun Q => by rw [wpE_waitDma2_eq, credit_rc]; rfl) (expect_rcv m c k i) (by rw [levs_eq]; exact mayWait_rcv c k i n hn)) $$ [Hc Hat Ho]
  · isplitr; · iexact HR
    isplitl [Hc]; · iexact Hc
    isplitl [Hat]; · iexact Hat
    iexact Ho
  iexact Hk

theorem snd_wait (K : Dev nD × CI → ℕ) (c : Dev nD) (k : Fin 8) (i : Fin 5) (n : ℕ) (hn : n ≤ 40) (Q : PUnit → sProp 𝕄) :
    iprop(records m K ∗ flight c k i ∗ ow c (owS c n))
      ⊢ iprop((iprop(sndEnd c k i ∗ ow c (owS c n) ∗ sndPay m c k i) -∗ Q ⟨⟩) -∗ WP c (waitSnd k i) Q) := by
  unfold flight sndEnd
  rw [← rest_snd m c k i]
  iintro ⟨#HR, ⟨Hc, Hat⟩, Ho⟩ Hk
  unfold waitSnd
  iapply (cell_wait m K c (some (false, k, i)) N (owS c n) _ (fun Q => by rw [wpE_waitDma2_eq, credit_st]; rfl) (expect_snd m c k i)
    (by rw [levs_eq]; exact mayWait_zero c _ n hn (lv_snd c k i))) $$ [Hc Hat Ho]
  · isplitr; · iexact HR
    isplitl [Hc]; · iexact Hc
    isplitl [Hat]; · iexact Hat
    iexact Ho
  iexact Hk

/-! ## A copy -/

theorem stO_halves (c : Dev nD) (k : Fin 8) (s : Fin 2) (X : FVec F S144x128 .bf16) :
    stO c k s fullShare X ⊢ (iprop(stO c k s fullShare.left X ∗ stO c k s fullShare.right X) : sProp 𝕄) :=
  (owns_halves (Val := Elt F) (c : Thread nD τ) (stW k s) fullShare X).1
theorem stO_whole (c : Dev nD) (k : Fin 8) (s : Fin 2) (X : FVec F S144x128 .bf16) :
    iprop(stO c k s fullShare.left X ∗ stO c k s fullShare.right X) ⊢ (stO c k s fullShare X : sProp 𝕄) :=
  (owns_halves (Val := Elt F) (c : Thread nD τ) (stW k s) fullShare X).2

theorem rcvPay_ptn (c : Dev nD) (k : Fin 8) (i : Fin 5) : rcvPay m (ptn k i c) k i = rcO (ptn k i c) k i (stv m k i.val c) := by
  unfold rcvPay
  rw [show ptn k i (ptn k i c) = c from nb_nb _ _]

theorem sent_src (c : Dev nD) (k : Fin 8) (i : Fin 5) (fs : Buf (Elt F) ((stW k (slot i.val)).view.loc (c : Thread nD τ)))
    (h : (stW k (slot i.val)).view.read (Elt F) fs = stv m k i.val c) :
    ((stW k (slot i.val)).view.loc (c : Thread nD τ) ↦[(stW k (slot i.val)).view.set]{fullShare.right} fs) ⊢ (sndPay m c k i : sProp 𝕄) :=
  (owns_intro (c : Thread nD τ) (stW k (slot i.val)) fullShare.right fs).trans (Entails.of_eq (congrArg (stO c k (slot i.val) fullShare.right) h))

/-- A landing place written with `X` is at `X`. -/
theorem sent_dst (c : Dev nD) (k : Fin 8) (i : Fin 5) (fd : Buf (Elt F) ((rcW k i).view.loc (c : Thread nD τ))) (X Y : FVec F S144x128 .bf16) (h : X = Y) :
    ((rcW k i).view.loc (c : Thread nD τ) ↦[(rcW k i).view.set]{fullShare} (rcW k i).view.write (Elt F) fd X Finset.univ) ⊢ (rcO c k i Y : sProp 𝕄) :=
  (owns_intro (c : Thread nD τ) (rcW k i) fullShare _).trans (Entails.of_eq (congrArg (rcO c k i)
    ((funext fun x => View.read_write_of_mem (v := (rcW k i).view) fd _ (Finset.mem_univ x)).trans h)))

theorem send (K : Dev nD × CI → ℕ) (c : Dev nD) (k : Fin 8) (i : Fin 5) (O₀ O : CellTallies nD τ sig Unit)
    (hO : O₀ = O + tallyAt (rcvCell (ptn k i c) k i) () N) (Q : PUnit → sProp 𝕄) :
    iprop(records m K ∗ stO c k (slot i.val) fullShare (stv m k i.val c) ∗ rcE (ptn k i c) k i ∗ sndTok c k i ∗ ow c O₀)
      ⊢ iprop((iprop(stO c k (slot i.val) fullShare.left (stv m k i.val c) ∗ flight c k i ∗ ow c O) -∗ Q ⟨⟩) -∗ WP c (sendP c k i) Q) := by
  unfold sndTok flight ow rcE
  iintro ⟨#HR, Hst, ⟨%X, Hrc⟩, ⟨Hat, Hts, Htr⟩, ⟨%W, HO⟩⟩ Hk
  ihave Hh := (stO_halves c k (slot i.val) (stv m k i.val c)) $$ Hst
  icases Hh with ⟨HL, HRt⟩
  ihave HRt := (show stO c k (slot i.val) fullShare.right (stv m k i.val c)
    ⊢ (iprop(∃ f, ⌜(stW k (slot i.val)).view.read (Elt F) f = stv m k i.val c⌝ ∗ ((stW k (slot i.val)).view.loc (c : Thread nD τ) ↦[(stW k (slot i.val)).view.set]{fullShare.right} f)) : sProp 𝕄) from .rfl) $$ HRt
  icases HRt with ⟨%fs, %hfs, HRt⟩
  ihave Hrc := (show rcO (ptn k i c) k i X
    ⊢ (iprop(∃ f, ⌜(rcW k i).view.read (Elt F) f = X⌝ ∗ ((rcW k i).view.loc (ptn k i c : Thread nD τ) ↦[(rcW k i).view.set]{fullShare} f)) : sProp 𝕄) from .rfl) $$ Hrc
  icases Hrc with ⟨%fd, -, Hrc⟩
  unfold WP sendP Prog.lift
  iapply (Rounds.wp_send_pointsTo 𝒱₀ ER (Rd m) (c : Thread nD τ) none (c' := (ptn k i c : Thread nD τ)) (src := stW k (slot i.val)) (dst := rcW k i)
    (sS := .dma (sndS k i)) (sem := .dma (rcvS k i)) (κ₁ := K (c, some (false, k, i))) (κ₂ := K (ptn k i c, some (true, k, i)))
    (r₁ := 0) (r₂ := 0) (d₁ := 0) (d₂ := 0) (q := fullShare.right) (fs := fs) (fd := fd) (by rw [duties_snd]; exact Finset.mem_singleton_self _)
    (by rw [duties_rcv]; exact Finset.mem_singleton_self _)
    () () N (credit_rc k i) (amount_snd m c k i 0) (amount_rcv m (ptn k i c) k i 0) O hO (W := W)
    (by rw [payload_snd]; exact sent_src m c k i fs hfs)
    (by rw [payload_rcv, rcvPay_ptn]; exact sent_dst (ptn k i c) k i fd _ _ hfs)) $$ [HRt Hrc HO Hts Htr]
  · isplitr; · iapply (rec_inv m K (c, some (false, k, i))); iexact HR
    isplitr; · iapply (rec_inv m K (ptn k i c, some (true, k, i))); iexact HR
    isplitl [HRt]; · iexact HRt
    isplitl [Hrc]; · iexact Hrc
    isplitl [HO]; · iexact HO
    isplitl [Hts]; · iexact Hts
    isplitr; · iapply (rec_reached m K (c, some (false, k, i))); iexact HR
    isplitl [Htr]; · iexact Htr
    iapply (rec_reached m K (ptn k i c, some (true, k, i))); iexact HR
  iintro ⟨Hc, HO⟩
  rw [wp_ret]; imodintro
  iapply Hk
  isplitl [HL]; · iexact HL
  isplitl [Hc Hat]
  · isplitl [Hc] <;> iassumption
  iexists W; iexact HO

/-! ## The local sums of a stream -/

theorem head (c : Dev nD) (b : Fin 2) (g : ℕ) (k : Fin 8) (j : Fin 2) (f : Buf (Elt F) (stM.view.loc (c : Thread nD τ)))
    (Lw : List (View.Piece (Elt F) S8x2x144x128 .bf16)) (Q : FVec F S1x128 .f32 → sProp 𝕄) :
    iprop(buf c cc0_stg3_0 (kv m c) ∗ buf c cc0_stg4_0 (vv m c) ∗ part c k (stM.view.writes (Elt F) f Lw))
      ⊢ iprop((iprop(buf c cc0_stg3_0 (kv m c) ∗ buf c cc0_stg4_0 (vv m c)
          ∗ part c k (stM.view.writes (Elt F) f (pcNum k j (numV m c b g j) :: Lw))) -∗ Q (linV m c b g j))
        -∗ WP c (headP b g k (qv m c b) j) Q) := by
  iintro ⟨Hkb, Hvb, Hst⟩ Hk
  unfold headP linV numV kkv vvv
  rw [WP_bind]
  iapply (load_buf c kM (kvR b (Fin.ofNat 2 (g / 2))).toLoadRect _ (kv m c)) $$ Hkb
  iintro Hkb
  rw [WP_bind]
  iapply (load_buf c vM (kvR b (Fin.ofNat 2 (g / 2))).toLoadRect _ (vv m c)) $$ Hvb
  iintro Hvb
  rw [WP_bind]
  iapply (load_part c k (numR k j) (sub_num k j)) $$ Hst
  iintro %a Hst
  rw [WP_bind]
  iapply (store_num c k j _ _ _ f Lw) $$ Hst
  iintro Hst
  iapply WP_pure
  iapply Hk
  isplitl [Hkb]; · iexact Hkb
  isplitl [Hvb] <;> iassumption

theorem locV_of (c : Dev nD) (b : Fin 2) (g : ℕ) (hg : g < 4) : locV m c (Fin.ofNat 8 (4 * b.val + g)) = locBG m c b g := by
  have hb := b.isLt
  have h1 : (Fin.ofNat 8 (4 * b.val + g)).val = 4 * b.val + g := Nat.mod_eq_of_lt (by omega)
  unfold locV
  rw [h1, show (4 * b.val + g) % 4 = g by omega, show (4 * b.val + g) / 4 = b.val by omega, show Fin.ofNat 2 b.val = b from Fin.ext (Nat.mod_eq_of_lt hb)]

/-- The local sums and the first copy of stream `(b, g)`. -/
theorem stream_first (K : Dev nD × CI → ℕ) (c : Dev nD) (b : Fin 2) (g : ℕ) (k : Fin 8) (hk : locV m c k = locBG m c b g)
    (Z : FVec F S144x128 .bf16) (O₀ O : CellTallies nD τ sig Unit) (hO : O₀ = O + tallyAt (rcvCell (ptn k 0 c) k 0) () N) (Q : PUnit → sProp 𝕄) :
    iprop(records m K ∗ buf c cc0_stg3_0 (kv m c) ∗ buf c cc0_stg4_0 (vv m c) ∗ stO c k 0 fullShare Z
        ∗ rcE (ptn k 0 c) k 0 ∗ sndTok c k 0 ∗ ow c O₀)
      ⊢ iprop((iprop(buf c cc0_stg3_0 (kv m c) ∗ buf c cc0_stg4_0 (vv m c) ∗ stO c k 0 fullShare.left (stv m k 0 c) ∗ flight c k 0 ∗ ow c O) -∗ Q ⟨⟩)
        -∗ WP c (streamK c b g k (qv m c b)) Q) := by
  iintro ⟨#HR, Hkb, Hvb, Hst, Hrc, Htk, Ho⟩ Hk
  ihave Hst := (part_of c k Z) $$ Hst
  icases Hst with ⟨%f, Hst⟩
  unfold streamK
  rw [WP_bind]
  iapply (head m c b g k 0 f []) $$ [Hkb Hvb Hst]
  · isplitl [Hkb]; · iexact Hkb
    isplitl [Hvb] <;> iassumption
  iintro ⟨Hkb, Hvb, Hst⟩
  rw [WP_bind]
  iapply (head m c b g k 1 f _) $$ [Hkb Hvb Hst]
  · isplitl [Hkb]; · iexact Hkb
    isplitl [Hvb] <;> iassumption
  iintro ⟨Hkb, Hvb, Hst⟩
  rw [WP_bind]
  iapply (load_part c k (denR k) (sub_den k)) $$ Hst
  iintro %a Hst
  rw [WP_bind]
  iapply (store_den c k _ _ _ f _) $$ Hst
  iintro Hst
  ihave Hst := (show part c k (stM.view.writes (Elt F) f [pcDen k (denP (linV m c b g 0) (linV m c b g 1)), pcNum k 1 (numV m c b g 1), pcNum k 0 (numV m c b g 0)])
    ⊢ stO c k (slot (0 : Fin 5).val) fullShare (stv m k (0 : Fin 5).val c) from by
      rw [show stv m k (0 : Fin 5).val c = locBG m c b g from hk]
      exact of_part c k f _ _ _) $$ Hst
  iapply (send m K c k 0 O₀ O hO) $$ [Hst Hrc Htk Ho]
  · isplitr; · iexact HR
    isplitl [Hst]; · iexact Hst
    isplitl [Hrc]; · iexact Hrc
    isplitl [Htk] <;> iassumption
  iintro ⟨Hst, Hfl, Ho⟩
  iapply Hk
  isplitl [Hkb]; · iexact Hkb
  isplitl [Hvb]; · iexact Hvb
  isplitl [Hst]; · iexact Hst
  isplitl [Hfl] <;> iassumption

end Cert.XAttn

end
-- ==== Proof.Streams.lean ====
/-
# A stream's exchange, step by step

What a device holds of stream `k` once `i` of its exchange steps are done (`Strm`), the rule of one step of each kind,
and the loops over the streams.
-/
module

public import proofs.«01_k».proof.Proof.Rules

@[expose] public section

noncomputable section

namespace Cert.XAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families and loops -/

/-- One summand of a family is changed, the others are kept. -/
theorem bigSep_swap {I : Type} [Fintype I] [DecidableEq I] {Φ Ψ : I → sProp 𝕄} (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr fun j hj => h j (Finset.ne_of_mem_erase hj)]
  iintro ⟨H, HR⟩
  isplitl [H]; · iexact H
  iintro H
  isplitl [H] <;> iassumption

theorem loop_spec (c : Dev nD) (f : ℕ → PR F PUnit) (Inv : ℕ → sProp 𝕄) (n s : ℕ)
    (step : ∀ e, s ≤ e → e < s + n → ∀ Q : PUnit → sProp 𝕄, Inv e ⊢ iprop((Inv (e + 1) -∗ Q ⟨⟩) -∗ WP c (f e) Q)) (Q : PUnit → sProp 𝕄) :
    Inv s ⊢ iprop((Inv (s + n) -∗ Q ⟨⟩) -∗ WP c (loopN f n s) Q) := by
  induction n generalizing s with
  | zero =>
    unfold loopN
    iintro H Hk
    iapply WP_pure
    iapply Hk; iexact H
  | succ n ih =>
    unfold loopN
    iintro H Hk
    rw [WP_bind]
    iapply (step s le_rfl (by omega)) $$ H
    iintro H
    iapply (ih (s + 1) fun e h1 h2 => step e (by omega) (by omega)) $$ H
    iintro H
    iapply Hk
    rw [show s + (n + 1) = s + 1 + n by omega]; iexact H

/-! ## What a stream holds -/

def rcvSt (c : Dev nD) (k : Fin 8) (n : ℕ) (i : Fin 5) : sProp 𝕄 :=
  if i.val < n then iprop(rcvEnd c k i ∗ rcE c k i) else rcvTok c k i
def sndSt (c : Dev nD) (k : Fin 8) (s w : ℕ) (i : Fin 5) : sProp 𝕄 :=
  if i.val < w then sndEnd c k i else if i.val < s then flight c k i else iprop(sndTok c k i ∗ rcE (ptn k i c) k i)

/-- `n` copies received; `s` copies sent, `w` of them over. -/
def Rc (c : Dev nD) (k : Fin 8) (n : ℕ) : sProp 𝕄 := bigSep Finset.univ (rcvSt c k n)
def Sn (c : Dev nD) (k : Fin 8) (s w : ℕ) : sProp 𝕄 := bigSep Finset.univ (sndSt c k s w)

theorem rc_take (c : Dev nD) (k : Fin 8) (i : Fin 5) (n n' : ℕ) (hn : i.val = n) (hn' : n + 1 = n') :
    Rc c k n ⊢ (iprop(rcvTok c k i ∗ (iprop(rcvEnd c k i ∗ rcE c k i) -∗ Rc c k n')) : sProp 𝕄) := by
  subst hn hn'
  have h := bigSep_swap (Φ := rcvSt (F := F) c k i.val) (Ψ := rcvSt c k (i.val + 1)) i fun j hj => by
    have : j.val ≠ i.val := fun e => hj (Fin.ext e)
    unfold rcvSt
    simp only [show (j.val < i.val + 1) = (j.val < i.val) from propext (by omega)]
  rwa [show rcvSt (F := F) c k i.val i = rcvTok c k i from if_neg (by omega),
    show rcvSt (F := F) c k (i.val + 1) i = iprop(rcvEnd c k i ∗ rcE c k i) from if_pos (by omega)] at h

theorem sn_send (c : Dev nD) (k : Fin 8) (i : Fin 5) (s s' w : ℕ) (hs : i.val = s) (hs' : s + 1 = s') (hw : w ≤ s) :
    Sn c k s w ⊢ (iprop(iprop(sndTok c k i ∗ rcE (ptn k i c) k i) ∗ (flight c k i -∗ Sn c k s' w)) : sProp 𝕄) := by
  subst hs hs'
  have h := bigSep_swap (Φ := sndSt (F := F) c k i.val w) (Ψ := sndSt c k (i.val + 1) w) i fun j hj => by
    have : j.val ≠ i.val := fun e => hj (Fin.ext e)
    unfold sndSt
    simp only [show (j.val < i.val + 1) = (j.val < i.val) from propext (by omega)]
  rwa [show sndSt (F := F) c k i.val w i = iprop(sndTok c k i ∗ rcE (ptn k i c) k i) from (if_neg (by omega)).trans (if_neg (by omega)),
    show sndSt (F := F) c k (i.val + 1) w i = flight c k i from (if_neg (by omega)).trans (if_pos (by omega))] at h

theorem sn_wait (c : Dev nD) (k : Fin 8) (i : Fin 5) (s w w' : ℕ) (hw : i.val = w) (hw' : w + 1 = w') (hs : w < s) :
    Sn c k s w ⊢ (iprop(flight c k i ∗ (sndEnd c k i -∗ Sn c k s w')) : sProp 𝕄) := by
  subst hw hw'
  have h := bigSep_swap (Φ := sndSt (F := F) c k s i.val) (Ψ := sndSt c k s (i.val + 1)) i fun j hj => by
    have : j.val ≠ i.val := fun e => hj (Fin.ext e)
    unfold sndSt
    simp only [show (j.val < i.val + 1) = (j.val < i.val) from propext (by omega)]
  rwa [show sndSt (F := F) c k s i.val i = flight c k i from (if_neg (by omega)).trans (if_pos hs),
    show sndSt (F := F) c k s (i.val + 1) i = sndEnd c k i from if_pos (by omega)] at h

/-- Stream `k` after `i` steps, its next copy on the way: the current slot half lent to it, and the other slot, half lent to
    the copy before. -/
def Strm (c : Dev nD) (k : Fin 8) : ℕ → sProp 𝕄
  | 0 => iprop(Rc c k 0 ∗ Sn c k 1 0 ∗ stO c k 0 fullShare.left (stv m k 0 c) ∗ (∃ X, stO c k 1 fullShare X))
  | i + 1 => iprop(Rc c k (i + 1) ∗ Sn c k (min (i + 2) 5) i
      ∗ stO c k (slot (i + 1)) (if i = 4 then fullShare else fullShare.left) (stv m k (i + 1) c) ∗ stO c k (slot i) fullShare.left (stv m k i c))

theorem Strm_zero (c : Dev nD) (k : Fin 8) :
    Strm m c k 0 = iprop(Rc c k 0 ∗ Sn c k 1 0 ∗ stO c k 0 fullShare.left (stv m k 0 c) ∗ (∃ X, stO c k 1 fullShare X)) := rfl
theorem Strm_mid (c : Dev nD) (k : Fin 8) (i j : ℕ) (hj : i + 1 = j) (hi : j < 5) :
    Strm m c k j = iprop(Rc c k j ∗ Sn c k (i + 2) i
      ∗ stO c k (slot j) fullShare.left (stv m k j c) ∗ stO c k (slot i) fullShare.left (stv m k i c)) := by
  subst hj
  unfold Strm
  dsimp only
  rw [if_neg (by omega), show min (i + 2) 5 = i + 2 by omega]
theorem Strm_five (c : Dev nD) (k : Fin 8) :
    Strm m c k 5 = iprop(Rc c k 5 ∗ Sn c k 5 4 ∗ stO c k 1 fullShare (stv m k 5 c) ∗ stO c k 0 fullShare.left (stv m k 4 c)) := rfl

theorem stv_succ (k : Fin 8) (i : Fin 5) (n n' : ℕ) (hn : i.val = n) (hn' : n + 1 = n') (c : Dev nD) :
    stv m k n' c = addV (stv m k n c) (stv m k n (ptn k i c)) := by
  subst hn hn'
  show addV (stv m k i.val c) (stv m k i.val (ptn k (Fin.ofNat 5 i.val) c)) = _
  rw [show Fin.ofNat 5 i.val = i from Fin.ext (Nat.mod_eq_of_lt i.isLt)]

/-! ## The steps -/

def stepKF (d0 : Dev nD) (k : Fin 8) : PR F PUnit := do
  waitRcv k 0
  accP k 0
  sendP d0 k 1

def stepKM (d0 : Dev nD) (k : Fin 8) (i0 i1 i2 : Fin 5) : PR F PUnit := do
  waitRcv k i1
  waitSnd k i0
  accP k i1
  sendP d0 k i2

def stepKL (k : Fin 8) : PR F PUnit := do
  waitRcv k 4
  waitSnd k 3
  accP k 4

theorem first_step (K : Dev nD × CI → ℕ) (c : Dev nD) (k : Fin 8) (n : ℕ) (hn : n + 1 + k.val < 40)
    (hO : owS c (n + 1) = owS c n + tallyAt (rcvCell (ptn k 1 c) k 1) () N) (Q : PUnit → sProp 𝕄) :
    iprop(records m K ∗ Strm m c k 0 ∗ ow c (owS c (n + 1)))
      ⊢ iprop((iprop(Strm m c k 1 ∗ ow c (owS c n)) -∗ Q ⟨⟩) -∗ WP c (stepKF c k) Q) := by
  rw [Strm_zero, Strm_mid m c k 0 1 rfl (by decide)]
  iintro ⟨#HR, ⟨Hrc, Hsn, Hcur, ⟨%Z, Hoth⟩⟩, Ho⟩ Hk
  unfold stepKF
  rw [WP_bind]
  ihave Hrc := (rc_take (F := F) c k 0 0 1 rfl rfl) $$ Hrc
  icases Hrc with ⟨Htk, Hcl⟩
  iapply (rcv_wait m K c k 0 (n + 1) (by show n + 1 + (8 * 0 + k.val) < 40; omega)) $$ [Htk Ho]
  · isplitr; · iexact HR
    isplitl [Htk] <;> iassumption
  iintro ⟨Hend, Ho, Hpay⟩
  rw [WP_bind]
  unfold rcvPay
  iapply (acc_step c k 0 fullShare.left (stv m k 0 c) (stv m k 0 (ptn k 0 c)) Z) $$ [Hcur Hpay Hoth]
  · isplitl [Hcur]; · iexact Hcur
    isplitl [Hpay]; · iexact Hpay
    iexact Hoth
  iintro ⟨Hcur, Hpay, Hnew⟩
  rw [← stv_succ m k 0 0 1 rfl rfl c]
  ihave Hsn := (sn_send (F := F) c k 1 1 2 0 rfl rfl (Nat.zero_le _)) $$ Hsn
  icases Hsn with ⟨⟨Hst, Hland⟩, Hsn⟩
  iapply (send m K c k 1 (owS c (n + 1)) (owS c n) hO) $$ [Hnew Hland Hst Ho]
  · isplitr; · iexact HR
    isplitl [Hnew]; · iexact Hnew
    isplitl [Hland]; · iexact Hland
    isplitl [Hst] <;> iassumption
  iintro ⟨Hnew, Hfl, Ho⟩
  iapply Hk
  isplitr [Ho]
  · isplitl [Hcl Hend Hpay]
    · iapply Hcl
      isplitl [Hend]; · iexact Hend
      unfold rcE; iexists _; iexact Hpay
    isplitl [Hsn Hfl]
    · iapply Hsn; iexact Hfl
    isplitl [Hnew]; · iexact Hnew
    iexact Hcur
  iexact Ho

theorem mid_step (K : Dev nD × CI → ℕ) (c : Dev nD) (k : Fin 8) (i : ℕ) (hi : i + 2 < 5) (n : ℕ) (hn : n + 1 + (8 * (i + 1) + k.val) < 40)
    (hO : owS c (n + 1) = owS c n + tallyAt (rcvCell (ptn k ⟨i + 2, hi⟩ c) k ⟨i + 2, hi⟩) () N) (Q : PUnit → sProp 𝕄) :
    iprop(records m K ∗ Strm m c k (i + 1) ∗ ow c (owS c (n + 1)))
      ⊢ iprop((iprop(Strm m c k (i + 2) ∗ ow c (owS c n)) -∗ Q ⟨⟩) -∗ WP c (stepKM c k ⟨i, Nat.lt_of_succ_lt (Nat.lt_of_succ_lt hi)⟩ ⟨i + 1, Nat.lt_of_succ_lt hi⟩ ⟨i + 2, hi⟩) Q) := by
  rw [Strm_mid m c k i (i + 1) rfl (by omega), Strm_mid m c k (i + 1) (i + 2) rfl hi]
  iintro ⟨#HR, ⟨Hrc, Hsn, Hcur, Hoth⟩, Ho⟩ Hk
  unfold stepKM
  rw [WP_bind]
  ihave Hrc := (rc_take (F := F) c k ⟨i + 1, Nat.lt_of_succ_lt hi⟩ (i + 1) (i + 2) rfl rfl) $$ Hrc
  icases Hrc with ⟨Htk, Hcl⟩
  iapply (rcv_wait m K c k ⟨i + 1, Nat.lt_of_succ_lt hi⟩ (n + 1) hn) $$ [Htk Ho]
  · isplitr; · iexact HR
    isplitl [Htk] <;> iassumption
  iintro ⟨Hend, Ho, Hpay⟩
  rw [WP_bind]
  ihave Hsn := (sn_wait (F := F) c k ⟨i, Nat.lt_of_succ_lt (Nat.lt_of_succ_lt hi)⟩ (i + 2) i (i + 1) rfl rfl (by omega)) $$ Hsn
  icases Hsn with ⟨Hfl, Hsn⟩
  iapply (snd_wait m K c k ⟨i, Nat.lt_of_succ_lt (Nat.lt_of_succ_lt hi)⟩ (n + 1) (by omega)) $$ [Hfl Ho]
  · isplitr; · iexact HR
    isplitl [Hfl] <;> iassumption
  iintro ⟨Hse, Ho, Hback⟩
  ihave Hsn := Hsn $$ Hse
  unfold sndPay
  ihave Hoth := (stO_whole c k (slot i) (stv m k i c)) $$ [Hoth Hback]
  · isplitl [Hoth]; · iexact Hoth
    iexact Hback
  rw [WP_bind]
  unfold rcvPay
  iapply (acc_step c k ⟨i + 1, Nat.lt_of_succ_lt hi⟩ fullShare.left (stv m k (i + 1) c) (stv m k (i + 1) (ptn k ⟨i + 1, Nat.lt_of_succ_lt hi⟩ c)) (stv m k i c)) $$ [Hcur Hpay Hoth]
  · isplitl [Hcur]; · iexact Hcur
    isplitl [Hpay]; · iexact Hpay
    rw [show slot ((⟨i + 1, Nat.lt_of_succ_lt hi⟩ : Fin 5).val + 1) = slot i from Fin.ext (by show (i + 1 + 1) % 2 = i % 2; omega)]
    iexact Hoth
  iintro ⟨Hcur, Hpay, Hnew⟩
  rw [← stv_succ m k ⟨i + 1, Nat.lt_of_succ_lt hi⟩ (i + 1) (i + 2) rfl rfl c]
  ihave Hsn := (sn_send (F := F) c k ⟨i + 2, hi⟩ (i + 2) (i + 3) (i + 1) rfl rfl (Nat.le_succ _)) $$ Hsn
  icases Hsn with ⟨⟨Hst, Hland⟩, Hsn⟩
  iapply (send m K c k ⟨i + 2, hi⟩ (owS c (n + 1)) (owS c n) hO) $$ [Hnew Hland Hst Ho]
  · isplitr; · iexact HR
    isplitl [Hnew]; · iexact Hnew
    isplitl [Hland]; · iexact Hland
    isplitl [Hst] <;> iassumption
  iintro ⟨Hnew, Hfl, Ho⟩
  iapply Hk
  isplitr [Ho]
  · isplitl [Hcl Hend Hpay]
    · iapply Hcl
      isplitl [Hend]; · iexact Hend
      unfold rcE; iexists _; iexact Hpay
    isplitl [Hsn Hfl]
    · iapply Hsn; iexact Hfl
    isplitl [Hnew]; · iexact Hnew
    iexact Hcur
  iexact Ho

theorem last_step (K : Dev nD × CI → ℕ) (c : Dev nD) (k : Fin 8) (Q : PUnit → sProp 𝕄) :
    iprop(records m K ∗ Strm m c k 4 ∗ ow c (owS c 0))
      ⊢ iprop((iprop(Strm m c k 5 ∗ ow c (owS c 0)) -∗ Q ⟨⟩) -∗ WP c (stepKL k) Q) := by
  rw [Strm_mid m c k 3 4 rfl (by decide), Strm_five]
  iintro ⟨#HR, ⟨Hrc, Hsn, Hcur, Hoth⟩, Ho⟩ Hk
  unfold stepKL
  rw [WP_bind]
  ihave Hrc := (rc_take (F := F) c k 4 4 5 rfl rfl) $$ Hrc
  icases Hrc with ⟨Htk, Hcl⟩
  iapply (rcv_wait m K c k 4 0 (by have := k.isLt; show 0 + (8 * 4 + k.val) < 40; omega)) $$ [Htk Ho]
  · isplitr; · iexact HR
    isplitl [Htk] <;> iassumption
  iintro ⟨Hend, Ho, Hpay⟩
  rw [WP_bind]
  ihave Hsn := (sn_wait (F := F) c k 3 5 3 4 rfl rfl (by decide)) $$ Hsn
  icases Hsn with ⟨Hfl, Hsn⟩
  iapply (snd_wait m K c k 3 0 (by omega)) $$ [Hfl Ho]
  · isplitr; · iexact HR
    isplitl [Hfl] <;> iassumption
  iintro ⟨Hse, Ho, Hback⟩
  ihave Hsn := Hsn $$ Hse
  unfold sndPay
  ihave Hoth := (stO_whole c k (slot 3) (stv m k 3 c)) $$ [Hoth Hback]
  · isplitl [Hoth]; · iexact Hoth
    iexact Hback
  unfold rcvPay
  iapply (acc_step c k 4 fullShare.left (stv m k 4 c) (stv m k 4 (ptn k 4 c)) (stv m k 3 c)) $$ [Hcur Hpay Hoth]
  · isplitl [Hcur]; · iexact Hcur
    isplitl [Hpay]; · iexact Hpay
    iexact Hoth
  iintro ⟨Hcur, Hpay, Hnew⟩
  rw [← stv_succ m k 4 4 5 rfl rfl c]
  iapply Hk
  isplitr [Ho]
  · isplitl [Hcl Hend Hpay]
    · iapply Hcl
      isplitl [Hend]; · iexact Hend
      unfold rcE; iexists _; iexact Hpay
    isplitl [Hsn]; · iexact Hsn
    isplitl [Hnew]; · iexact Hnew
    iexact Hcur
  iexact Ho

/-- Stream `k` at the end. -/
def Done (c : Dev nD) (k : Fin 8) : sProp 𝕄 :=
  iprop(Rc c k 5 ∗ Sn c k 5 5 ∗ stO c k 1 fullShare (stv m k 5 c) ∗ stO c k 0 fullShare (stv m k 4 c))

theorem final_wait (K : Dev nD × CI → ℕ) (c : Dev nD) (k : Fin 8) (Q : PUnit → sProp 𝕄) :
    iprop(records m K ∗ Strm m c k 5 ∗ ow c (owS c 0))
      ⊢ iprop((iprop(Done m c k ∗ ow c (owS c 0)) -∗ Q ⟨⟩) -∗ WP c (waitSnd k 4) Q) := by
  unfold Done
  rw [Strm_five]
  iintro ⟨#HR, ⟨Hrc, Hsn, Hcur, Hoth⟩, Ho⟩ Hk
  ihave Hsn := (sn_wait (F := F) c k 4 5 4 5 rfl rfl (by decide)) $$ Hsn
  icases Hsn with ⟨Hfl, Hsn⟩
  iapply (snd_wait m K c k 4 0 (by omega)) $$ [Hfl Ho]
  · isplitr; · iexact HR
    isplitl [Hfl] <;> iassumption
  iintro ⟨Hse, Ho, Hback⟩
  ihave Hsn := Hsn $$ Hse
  unfold sndPay
  ihave Hoth := (stO_whole c k (slot 4) (stv m k 4 c)) $$ [Hoth Hback]
  · isplitl [Hoth]; · iexact Hoth
    iexact Hback
  iapply Hk
  isplitr [Ho]
  · isplitl [Hrc]; · iexact Hrc
    isplitl [Hsn]; · iexact Hsn
    isplitl [Hcur]; · iexact Hcur
    iexact Hoth
  iexact Ho

end Cert.XAttn

end
-- ==== Proof.Body.lean ====
/-
# The body on one device

The five phases of the body, each as a loop over the rules of `Streams`: the barrier, the local sums with their first
copies, the exchange, the last waits and the two rows of the result.
-/
module

public import proofs.«01_k».proof.Proof.Streams

@[expose] public section

noncomputable section

namespace Cert.XAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The barrier -/

/-- Landing places by dimension. -/
theorem by_dim (Φ : Fin 8 × Fin 5 → sProp 𝕄) :
    bigSep Finset.univ Φ = bigSep Finset.univ fun d : Fin 5 => bigSep (along d) Φ := by
  rw [bigSep_fiberwise Finset.univ (fun p : Fin 8 × Fin 5 => dimF p.1 p.2) Φ,
    show Finset.univ.image (fun p : Fin 8 × Fin 5 => dimF p.1 p.2) = Finset.univ by decide]

theorem lend (c : Dev nD) :
    (bigSep Finset.univ fun p : Fin 8 × Fin 5 => rcE (F := F) c p.1 p.2) = bigSep Finset.univ fun d : Fin 5 => barPay (nb d c) d := by
  rw [by_dim]
  refine bigSep_congr fun d _ => ?_
  unfold barPay; rw [nb_nb]

theorem borrow (c : Dev nD) :
    (bigSep Finset.univ fun d : Fin 5 => barPay (F := F) c d) = bigSep Finset.univ fun p : Fin 8 × Fin 5 => rcE (ptn p.1 p.2 c) p.1 p.2 := by
  rw [by_dim]
  refine bigSep_congr fun d _ => ?_
  unfold barPay
  refine bigSep_congr fun p hp => ?_
  rw [← (Finset.mem_filter.mp hp).2]

def sigSt (c : Dev nD) (e : ℕ) (d : Fin 5) : sProp 𝕄 :=
  if d.val < e then iprop(emp) else iprop(dutyTok ER (barCell (nb d c)) 0 d ∗ barPay (nb d c) d)

/-- `e` signals out. -/
def InvS (K : Dev nD × CI → ℕ) (c : Dev nD) (e : ℕ) : sProp 𝕄 :=
  iprop(records m K ∗ bigSep Finset.univ (sigSt c e) ∗ ow c (owB c (5 - e)))

theorem signal_step (K : Dev nD × CI → ℕ) (c : Dev nD) (e : ℕ) (he : e < 5) (Q : PUnit → sProp 𝕄) :
    InvS m K c e ⊢ iprop((InvS m K c (e + 1) -∗ Q ⟨⟩) -∗ WP c (semSignalWord (nb (Fin.ofNat 5 e) c : Thread nD τ).1 barS 1#32) Q) := by
  have hv : (Fin.ofNat 5 e).val = e := Nat.mod_eq_of_lt he
  generalize hd : Fin.ofNat 5 e = d at *
  unfold InvS ow
  iintro ⟨#HR, Hs, ⟨%W, HO⟩⟩ Hk
  ihave Hs := (bigSep_swap (Φ := sigSt (F := F) c e) (Ψ := sigSt c (e + 1)) d fun j hj => by
    have : j.val ≠ e := fun h => hj (Fin.ext (h.trans hv.symm))
    unfold sigSt
    simp only [show (j.val < e + 1) = (j.val < e) from propext (by omega)]) $$ Hs
  rw [show sigSt (F := F) c e d = iprop(dutyTok ER (barCell (nb d c)) 0 d ∗ barPay (nb d c) d) from if_neg (by omega),
    show sigSt (F := F) c (e + 1) d = iprop(emp) from if_pos (by omega)]
  icases Hs with ⟨⟨Ht, Hp⟩, Hs⟩
  unfold WP semSignalWord
  iapply (Rounds.wp_signal 𝒱₀ ER (Rd m) (c : Thread nD τ) none (dst := (nb d c : Thread nD τ)) (sem := barS) (κ := K (nb d c, none)) (r := 0)
      (d := d) (by rw [duties_bar]; exact Finset.mem_univ _) ((amount_bar m (nb d c) d).trans (by decide)) () (owB c (5 - (e + 1)))
      (W := W) (show owB c (5 - e) = owB c (5 - (e + 1)) + tallyAt (barCell (nb d c)) () 1 from by
        rw [show 5 - e = (4 - e) + 1 by omega, show 5 - (e + 1) = 4 - e by omega]
        show owB c (4 - e) + _ = _
        rw [show 4 - (4 - e) = e by omega, hd])) $$ [HO Ht Hp]
  · isplitr; · iapply (rec_inv m K (nb d c, none)); iexact HR
    isplitl [HO]; · iexact HO
    isplitl [Ht]; · iexact Ht
    isplitl [Hp]; · rw [payload_bar]; iexact Hp
    iapply (rec_reached m K (nb d c, none)); iexact HR
  iintro HO
  rw [wp_ret]; imodintro
  iapply Hk
  isplitr; · iexact HR
  isplitl [Hs]; · iapply Hs; iempintro
  iexists W; iexact HO

/-! ## What is owed -/

theorem owS_at (c : Dev nD) (n n' : ℕ) (hn : n + 1 = n') (hn' : n' ≤ 40) (k : Fin 8) (i : Fin 5) (hk : k.val = (39 - n) % 8) (hi : i.val = (39 - n) / 8) :
    owS c n' = owS c n + tallyAt (rcvCell (ptn k i c) k i) () N := by
  subst hn
  show owS c n + tallyAt (rcvCell (ptn (eK (39 - n)) (eI (39 - n)) c) (eK (39 - n)) (eI (39 - n))) () N = _
  rw [show eK (39 - n) = k from Fin.ext hk.symm, show eI (39 - n) = i from Fin.ext ((Nat.mod_eq_of_lt (by omega)).trans hi.symm)]

/-! ## The local sums -/

def Pre (c : Dev nD) (k : Fin 8) : sProp 𝕄 :=
  iprop(Rc c k 0 ∗ Sn c k 0 0 ∗ (∃ X, stO c k 0 fullShare X) ∗ (∃ X, stO c k 1 fullShare X))

def strSt (c : Dev nD) (e : ℕ) (k : Fin 8) : sProp 𝕄 := if k.val < e then Strm m c k 0 else Pre c k

/-- `e` streams begun. -/
def InvA (K : Dev nD × CI → ℕ) (c : Dev nD) (e : ℕ) : sProp 𝕄 :=
  iprop(records m K ∗ (buf c cc0_stg3_0 (kv m c) ∗ buf c cc0_stg4_0 (vv m c)) ∗ bigSep Finset.univ (strSt m c e) ∗ ow c (owS c (40 - e)))

theorem stream_step (K : Dev nD × CI → ℕ) (c : Dev nD) (b : Fin 2) (g : ℕ) (hg : g < 4) (Q : PUnit → sProp 𝕄) :
    InvA m K c (4 * b.val + g) ⊢ iprop((InvA m K c (4 * b.val + g + 1) -∗ Q ⟨⟩) -∗ WP c (streamP c b (qv m c b) g) Q) := by
  have hb := b.isLt
  have hv : (Fin.ofNat 8 (4 * b.val + g)).val = 4 * b.val + g := Nat.mod_eq_of_lt (by omega)
  have hl := locV_of m c b g hg
  unfold streamP
  generalize Fin.ofNat 8 (4 * b.val + g) = k at *
  generalize he : 4 * b.val + g = e at *
  unfold InvA
  iintro ⟨#HR, ⟨Hkb, Hvb⟩, Hs, Ho⟩ Hk
  ihave Hs := (bigSep_swap (Φ := strSt m c e) (Ψ := strSt m c (e + 1)) k fun j hj => by
    have : j.val ≠ e := fun h => hj (Fin.ext (h.trans hv.symm))
    unfold strSt
    simp only [show (j.val < e + 1) = (j.val < e) from propext (by omega)]) $$ Hs
  rw [show strSt m c e k = Pre c k from if_neg (by omega), show strSt m c (e + 1) k = Strm m c k 0 from if_pos (by omega), Strm_zero]
  unfold Pre
  icases Hs with ⟨⟨Hrc, Hsn, ⟨%Z, Hst⟩, Hot⟩, Hs⟩
  ihave Hsn := (sn_send (F := F) c k 0 0 1 0 rfl rfl le_rfl) $$ Hsn
  icases Hsn with ⟨⟨Htk, Hland⟩, Hsn⟩
  iapply (stream_first m K c b g k hl Z (owS c (40 - e)) (owS c (40 - (e + 1)))
    (owS_at c _ _ (by omega) (by omega) k 0 (by omega) (by show 0 = _; omega))) $$ [Hkb Hvb Hst Hland Htk Ho]
  · isplitr; · iexact HR
    isplitl [Hkb]; · iexact Hkb
    isplitl [Hvb]; · iexact Hvb
    isplitl [Hst]; · iexact Hst
    isplitl [Hland]; · iexact Hland
    isplitl [Htk]; · iexact Htk
    iexact Ho
  iintro ⟨Hkb, Hvb, Hst, Hfl, Ho⟩
  iapply Hk
  isplitr; · iexact HR
  isplitl [Hkb Hvb]
  · isplitl [Hkb] <;> iassumption
  isplitr [Ho]
  · iapply Hs
    isplitl [Hrc]; · iexact Hrc
    isplitl [Hsn Hfl]
    · iapply Hsn; iexact Hfl
    isplitl [Hst] <;> iassumption
  iexact Ho

/-- `b` batch rows begun. -/
def InvQ (K : Dev nD × CI → ℕ) (c : Dev nD) (b : ℕ) : sProp 𝕄 :=
  iprop((buf c cc0_stg0_0 (xv m c) ∗ buf c cc0_stg1_0 (wqv m c)) ∗ InvA m K c (4 * b))

theorem batch_step (K : Dev nD × CI → ℕ) (c : Dev nD) (b : ℕ) (hb : b < 2) (Q : PUnit → sProp 𝕄) :
    InvQ m K c b ⊢ iprop((InvQ m K c (b + 1) -∗ Q ⟨⟩) -∗ WP c (batchP c b) Q) := by
  have hv : (Fin.ofNat 2 b).val = b := Nat.mod_eq_of_lt hb
  unfold batchP InvQ
  generalize Fin.ofNat 2 b = b' at *
  subst hv
  iintro ⟨Hq, HA⟩ Hk
  rw [WP_bind]
  iapply (loadQ_spec c b' (xv m c) (wqv m c)) $$ Hq
  iintro Hq
  rw [show (qAll (xM.view.readAt (Elt F) (xR b').toLoadRect (xv m c)) (wqM.view.readAt (Elt F) wR.toLoadRect (wqv m c)) : FVec F S128x512 .bf16) = qv m c b' from rfl]
  iapply (loop_spec c _ (fun g => InvA m K c (4 * b'.val + g)) 4 0 fun g _ hg => stream_step m K c b' g (by omega)) $$ HA
  iintro HA
  iapply Hk
  isplitl [Hq]; · iexact Hq
  iexact HA

/-! ## The exchange -/

def exSt (c : Dev nD) (E : ℕ) (k : Fin 8) : sProp 𝕄 := Strm m c k ((E + 7 - k.val) / 8)

/-- `E` of the forty exchange steps done. -/
def InvB (K : Dev nD × CI → ℕ) (c : Dev nD) (E : ℕ) : sProp 𝕄 :=
  iprop(records m K ∗ bigSep Finset.univ (exSt m c E) ∗ ow c (owS c (32 - E)))

/-- One step, at stream `k`. -/
theorem ex_step (K : Dev nD × CI → ℕ) (c : Dev nD) (E i : ℕ) (k : Fin 8) (hE : E = 8 * i + k.val) (p : PR F PUnit) (Q : PUnit → sProp 𝕄)
    (h : iprop(records m K ∗ Strm m c k i ∗ ow c (owS c (32 - E)))
      ⊢ iprop((iprop(Strm m c k (i + 1) ∗ ow c (owS c (32 - (E + 1)))) -∗ Q ⟨⟩) -∗ WP c p Q)) :
    InvB m K c E ⊢ iprop((InvB m K c (E + 1) -∗ Q ⟨⟩) -∗ WP c p Q) := by
  have hk := k.isLt
  unfold InvB
  iintro ⟨#HR, Hs, Ho⟩ Hk
  ihave Hs := (bigSep_swap (Φ := exSt m c E) (Ψ := exSt m c (E + 1)) k fun j hj => by
    have : j.val ≠ k.val := fun h => hj (Fin.ext h)
    have := j.isLt
    unfold exSt
    rw [show (E + 1 + 7 - j.val) / 8 = (E + 7 - j.val) / 8 by omega]) $$ Hs
  rw [show exSt m c E k = Strm m c k i by unfold exSt; rw [show (E + 7 - k.val) / 8 = i by omega],
    show exSt m c (E + 1) k = Strm m c k (i + 1) by unfold exSt; rw [show (E + 1 + 7 - k.val) / 8 = i + 1 by omega]]
  icases Hs with ⟨H, Hs⟩
  iapply h $$ [H Ho]
  · isplitr; · iexact HR
    isplitl [H] <;> iassumption
  iintro ⟨H, Ho⟩
  iapply Hk
  isplitr; · iexact HR
  isplitl [H Hs]
  · iapply Hs; iexact H
  iexact Ho

theorem stepF_spec (K : Dev nD × CI → ℕ) (c : Dev nD) (e : ℕ) (he : e < 8) (Q : PUnit → sProp 𝕄) :
    InvB m K c e ⊢ iprop((InvB m K c (e + 1) -∗ Q ⟨⟩) -∗ WP c (stepF c e) Q) := by
  have hv : (Fin.ofNat 8 e).val = e := Nat.mod_eq_of_lt he
  refine ex_step m K c e 0 (Fin.ofNat 8 e) (by omega) _ Q ?_
  show _ ⊢ iprop(_ -∗ WP c (stepKF c (Fin.ofNat 8 e)) Q)
  generalize Fin.ofNat 8 e = k at *
  rw [show 32 - e = 32 - (e + 1) + 1 by omega]
  exact first_step m K c k (32 - (e + 1)) (by omega) (owS_at c _ _ rfl (by omega) k 1 (by omega) (by show 1 = _; omega)) Q

theorem stepM_spec (K : Dev nD × CI → ℕ) (c : Dev nD) (e : ℕ) (he : e < 24) (Q : PUnit → sProp 𝕄) :
    InvB m K c (8 + e) ⊢ iprop((InvB m K c (8 + e + 1) -∗ Q ⟨⟩) -∗ WP c (stepM c e) Q) := by
  have h0 : e / 8 < 5 := by omega
  have h1 : e / 8 + 1 < 5 := by omega
  have h2 : e / 8 + 2 < 5 := by omega
  have hv : (Fin.ofNat 8 e).val = e % 8 := rfl
  refine ex_step m K c (8 + e) (e / 8 + 1) (Fin.ofNat 8 e) (by omega) _ Q ?_
  have hp : stepM (F := F) c e = stepKM c (Fin.ofNat 8 e) ⟨e / 8, h0⟩ ⟨e / 8 + 1, h1⟩ ⟨e / 8 + 2, h2⟩ := by
    unfold stepM stepKM
    rw [show Fin.ofNat 5 (e / 8) = ⟨e / 8, h0⟩ from Fin.ext (Nat.mod_eq_of_lt (by omega)),
      show Fin.ofNat 5 (e / 8 + 1) = ⟨e / 8 + 1, h1⟩ from Fin.ext (Nat.mod_eq_of_lt (by omega)),
      show Fin.ofNat 5 (e / 8 + 2) = ⟨e / 8 + 2, h2⟩ from Fin.ext (Nat.mod_eq_of_lt (by omega))]
  rw [hp]
  clear hp
  generalize Fin.ofNat 8 e = k at *
  rw [show 32 - (8 + e) = 32 - (8 + e + 1) + 1 by omega]
  exact mid_step m K c k (e / 8) h2 (32 - (8 + e + 1)) (by omega)
    (owS_at c _ _ rfl (by omega) k ⟨e / 8 + 2, h2⟩ (by omega) (by show e / 8 + 2 = _; omega)) Q

theorem stepL_spec (K : Dev nD × CI → ℕ) (c : Dev nD) (e : ℕ) (he : e < 8) (Q : PUnit → sProp 𝕄) :
    InvB m K c (32 + e) ⊢ iprop((InvB m K c (32 + e + 1) -∗ Q ⟨⟩) -∗ WP c (stepL e) Q) := by
  have hv : (Fin.ofNat 8 e).val = e := Nat.mod_eq_of_lt he
  refine ex_step m K c (32 + e) 4 (Fin.ofNat 8 e) (by omega) _ Q ?_
  show _ ⊢ iprop(_ -∗ WP c (stepKL (Fin.ofNat 8 e)) Q)
  generalize Fin.ofNat 8 e = k at *
  rw [show 32 - (32 + e) = 0 by omega, show 32 - (32 + e + 1) = 0 by omega]
  exact last_step m K c k Q

/-! ## The last waits -/

def endSt (c : Dev nD) (e : ℕ) (k : Fin 8) : sProp 𝕄 := if k.val < e then Done m c k else Strm m c k 5

def InvC (K : Dev nD × CI → ℕ) (c : Dev nD) (e : ℕ) : sProp 𝕄 :=
  iprop(records m K ∗ bigSep Finset.univ (endSt m c e) ∗ ow c (owS c 0))

theorem end_step (K : Dev nD × CI → ℕ) (c : Dev nD) (e : ℕ) (he : e < 8) (Q : PUnit → sProp 𝕄) :
    InvC m K c e ⊢ iprop((InvC m K c (e + 1) -∗ Q ⟨⟩) -∗ WP c (waitSnd (Fin.ofNat 8 e) 4) Q) := by
  have hv : (Fin.ofNat 8 e).val = e := Nat.mod_eq_of_lt he
  generalize Fin.ofNat 8 e = k at *
  unfold InvC
  iintro ⟨#HR, Hs, Ho⟩ Hk
  ihave Hs := (bigSep_swap (Φ := endSt m c e) (Ψ := endSt m c (e + 1)) k fun j hj => by
    have : j.val ≠ e := fun h => hj (Fin.ext (h.trans hv.symm))
    unfold endSt
    simp only [show (j.val < e + 1) = (j.val < e) from propext (by omega)]) $$ Hs
  rw [show endSt m c e k = Strm m c k 5 from if_neg (by omega), show endSt m c (e + 1) k = Done m c k from if_pos (by omega)]
  icases Hs with ⟨H, Hs⟩
  iapply (final_wait m K c k) $$ [H Ho]
  · isplitr; · iexact HR
    isplitl [H] <;> iassumption
  iintro ⟨H, Ho⟩
  iapply Hk
  isplitr; · iexact HR
  isplitl [H Hs]
  · iapply Hs; iexact H
  iexact Ho

/-! ## The result -/

theorem load_done (c : Dev nD) (k : Fin 8) (Q : Vec F S1x1x144x128 .bf16 → sProp 𝕄) :
    bigSep Finset.univ (Done m c) ⊢ iprop((∀ a, ⌜sq a = stv m k 5 c⌝ -∗ bigSep Finset.univ (Done m c) -∗ Q a) -∗ WP c (loadSt k 1) Q) := by
  iintro Hs Hk
  ihave Hs := (bigSep_swap (Φ := Done m c) (Ψ := Done m c) k fun _ _ => rfl) $$ Hs
  unfold Done
  icases Hs with ⟨⟨H1, H2, H3, H4⟩, Hs⟩
  iapply (load_st c k 1 fullShare (stv m k 5 c)) $$ H3
  iintro %a %ha H3
  iapply Hk $$ [] [H1 H2 H3 H4 Hs]
  · ipureintro; exact ha
  iapply Hs
  isplitl [H1]; · iexact H1
  isplitl [H2]; · iexact H2
  isplitl [H3]; · iexact H3
  iexact H4

abbrev pcOut (b : Fin 2) (w : FVec F S1x128x512 .f32) : View.Piece (Elt F) S2x128x512 .f32 := ⟨xR b, w⟩

/-- The rows stored so far. -/
def outL (c : Dev nD) : ℕ → List (View.Piece (Elt F) S2x128x512 .f32)
  | 0 => []
  | e + 1 => pcOut (Fin.ofNat 2 e) (outB m c (Fin.ofNat 2 e)) :: outL c e

def ob (c : Dev nD) (f : Buf (Elt F) (oM.view.loc (c : Thread nD τ))) (Lw : List (View.Piece (Elt F) S2x128x512 .f32)) : sProp 𝕄 :=
  oM.view.loc (c : Thread nD τ) ↦{fullShare} oM.view.writes (Elt F) f Lw

theorem store_out (c : Dev nD) (b : Fin 2) (w : FVec F S1x128x512 .f32) (hx : (oM.access (xR b)).Stores Finset.univ)
    (hm : (Finset.univ : Finset (xR b).shape.Idx) = Finset.univ ∨ ∀ a, (xR b).stride a = 1)
    (f : Buf (Elt F) (oM.view.loc (c : Thread nD τ))) (Lw : List (View.Piece (Elt F) S2x128x512 .f32)) (Q : PUnit → sProp 𝕄) :
    ob c f Lw ⊢ iprop((ob c f (pcOut b w :: Lw) -∗ Q ⟨⟩) -∗ WP c (Prog.lift (.store oM (xR b) w Finset.univ hx hm)) Q) := by
  unfold ob
  iintro H Hk
  unfold WP Prog.lift
  iapply (wp_store_writes 𝒱₀ (c : Thread nD τ) none Set.univ (m := oM) (r := xR b) (w := w) (hx := hx) (hm := hm) (f := f) (L := Lw) (Finset.subset_univ _)) $$ H
  iintro H
  rw [wp_ret]; imodintro
  iapply Hk; iexact H

theorem load_out (c : Dev nD) (b : Fin 2) (hl : oM.view.LoadsAt (xR b).toLoadRect)
    (f : Buf (Elt F) (oM.view.loc (c : Thread nD τ))) (Lw : List (View.Piece (Elt F) S2x128x512 .f32)) (Q : Vec F (xR b).toLoadRect.shape .f32 → sProp 𝕄) :
    ob c f Lw ⊢ iprop((∀ a, ob c f Lw -∗ Q a) -∗ WP c (Prog.lift (.load oM (xR b).toLoadRect hl)) Q) := by
  unfold ob
  iintro H Hk
  iapply (load_buf c oM (xR b).toLoadRect hl (oM.view.writes (Elt F) f Lw)) $$ H
  iintro H
  iapply Hk; iexact H

def InvO (c : Dev nD) (f : Buf (Elt F) (oM.view.loc (c : Thread nD τ))) (e : ℕ) : sProp 𝕄 :=
  iprop(bigSep Finset.univ (Done m c) ∗ buf c cc0_stg2_0 (wov m c) ∗ ob c f (outL m c e))

theorem out_step (c : Dev nD) (f : Buf (Elt F) (oM.view.loc (c : Thread nD τ))) (e : ℕ) (he : e < 2) (Q : PUnit → sProp 𝕄) :
    InvO m c f e ⊢ iprop((InvO m c f (e + 1) -∗ Q ⟨⟩) -∗ WP c (outP e) Q) := by
  have hv : (Fin.ofNat 2 e).val = e := Nat.mod_eq_of_lt he
  unfold InvO outP
  have hout : outV (stv m (Fin.ofNat 8 (4 * e)) 5 c) (stv m (Fin.ofNat 8 (4 * e + 1)) 5 c) (stv m (Fin.ofNat 8 (4 * e + 2)) 5 c)
      (stv m (Fin.ofNat 8 (4 * e + 3)) 5 c) (woM.view.readAt (Elt F) wR.toLoadRect (wov m c)) = outB m c (Fin.ofNat 2 e) := by
    unfold outB; rw [hv]
  rw [show outL m c (e + 1) = pcOut (Fin.ofNat 2 e) (outB m c (Fin.ofNat 2 e)) :: outL m c e from rfl]
  iintro ⟨HD, Hw, Ho⟩ Hk
  rw [WP_bind]; iapply (load_done m c (Fin.ofNat 8 (4 * e))) $$ HD; iintro %a0 %h0 HD
  rw [WP_bind]; iapply (load_done m c (Fin.ofNat 8 (4 * e + 1))) $$ HD; iintro %a1 %h1 HD
  rw [WP_bind]; iapply (load_done m c (Fin.ofNat 8 (4 * e + 2))) $$ HD; iintro %a2 %h2 HD
  rw [WP_bind]; iapply (load_done m c (Fin.ofNat 8 (4 * e + 3))) $$ HD; iintro %a3 %h3 HD
  rw [WP_bind]; iapply (load_buf c woM wR.toLoadRect _ (wov m c)) $$ Hw; iintro Hw
  rw [WP_bind]; iapply (load_out c (Fin.ofNat 2 e) _ f (outL m c e)) $$ Ho; iintro %a4 Ho
  rw [h0, h1, h2, h3, hout]
  iapply (store_out c (Fin.ofNat 2 e) (outB m c (Fin.ofNat 2 e)) _ _ f (outL m c e)) $$ Ho
  iintro Ho
  iapply Hk
  isplitl [HD]; · iexact HD
  isplitl [Hw]; · iexact Hw
  iexact Ho

theorem rows_read (f : oM.view.ty.Contents (Elt F)) (w0 w1 : FVec F S1x128x512 .f32) (b : Fin 2) (p : Fin 128) (q : Fin 512) :
    oM.view.read (Elt F) (oM.view.writes (Elt F) f [pcOut 1 w1, pcOut 0 w0]) (ix3 b p q) = (if b = 0 then w0 else w1) (ix3 0 p q) := by
  rcases (by omega : b = 0 ∨ b = 1) with rfl | rfl
  · refine (View.read_writes_cons_miss_of_axis _ f (pcOut 1 w1) [pcOut 0 w0] _ 0 1 1 rfl rfl rfl (.inl (by show 0 < 1; omega))).trans ?_
    rw [if_pos rfl]
    refine View.read_writes_cons_hit_of_coords _ f (xR 0) w0 [] (ix3 0 p q) _ fun a => ?_
    fin_cases a
    · rfl
    · show p.val = 0 + 1 * p.val; omega
    · show q.val = 0 + 1 * q.val; omega
  · rw [if_neg (by decide)]
    refine View.read_writes_cons_hit_of_coords _ f (xR 1) w1 _ (ix3 0 p q) _ fun a => ?_
    fin_cases a
    · rfl
    · show p.val = 0 + 1 * p.val; omega
    · show q.val = 0 + 1 * q.val; omega

/-- The two stores make the result. -/
theorem out_rows (c : Dev nD) (f : Buf (Elt F) (oM.view.loc (c : Thread nD τ))) : oM.view.writes (Elt F) f (outL m c 2) = outAt m c := by
  rw [show outL m c 2 = [pcOut 1 (outB m c 1), pcOut 0 (outB m c 0)] from rfl]
  refine (View.read_whole cc0_stg5_0 _).symm.trans ?_
  funext y
  obtain ⟨b, p, q, rfl⟩ : ∃ b p q, y = ix3 b p q := ⟨y 0, y 1, y 2, eq_ix3 y⟩
  refine (rows_read f (outB m c 0) (outB m c 1) b p q).trans ?_
  show _ = outB m c b (ix3 0 p q)
  rcases (by omega : b = 0 ∨ b = 1) with rfl | rfl <;> rfl

end Cert.XAttn

end
-- ==== Proof.Whole.lean ====
/-
# The whole body

The phases of `Body` put together: from what a device holds when its kernel starts to what it holds when the kernel ends.
Then the cells are closed and the two exchange buffers put together again.
-/
module

public import proofs.«01_k».proof.Proof.Body
public import Idealize.ShloMosaic.Lib.Ring

@[expose] public section

noncomputable section

namespace Cert.XAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The barrier -/

/-- What a device brings to the barrier, and what it takes from it. -/
def barIn (c : Dev nD) : sProp 𝕄 :=
  iprop(atPos ER (barCell c) 0 ∅ 0 ∗ cred (tallyAt (barCell c) () 5) ∗ bigSep Finset.univ fun d : Fin 5 => dutyTok ER (barCell (nb d c)) 0 d)

def lands (c : Dev nD) : sProp 𝕄 := bigSep Finset.univ fun p : Fin 8 × Fin 5 => rcE (F := F) c p.1 p.2

theorem barrier_wait (K : Dev nD × CI → ℕ) (c : Dev nD) (Q : PUnit → sProp 𝕄) :
    iprop(records m K ∗ cred (tallyAt (barCell c) () 5) ∗ atPos ER (barCell c) 0 ∅ 0 ∗ ow c (owS c 40))
      ⊢ iprop((iprop(atPos ER (barCell c) 1 ∅ 0 ∗ ow c (owS c 40) ∗ bigSep Finset.univ fun d : Fin 5 => barPay (F := F) c d) -∗ Q ⟨⟩)
        -∗ WP c (semWaitWord barS 5#32) Q) := by
  rw [← rest_bar m c]
  exact cell_wait m K c none 5 (owS c 40) _ (wpE_semWait_eq 𝒱₀ (c : Thread nD τ) none Set.univ) (expect_bar m c) (by rw [levs_eq]; exact mayWait_bar c) Q

theorem barrier (K : Dev nD × CI → ℕ) (c : Dev nD) (p : PR F PUnit) (Q : PUnit → sProp 𝕄) :
    iprop(records m K ∗ barIn c ∗ lands c ∗ ow c (owB c 5))
      ⊢ iprop((iprop(atPos ER (barCell c) 1 ∅ 0 ∗ ow c (owS c 40) ∗ bigSep Finset.univ fun p : Fin 8 × Fin 5 => rcE (F := F) (ptn p.1 p.2 c) p.1 p.2)
          -∗ WP c p Q)
        -∗ WP c (loopN (fun e => semSignalWord (nb (Fin.ofNat 5 e) c) barS 1#32) 5 0 >>= fun _ => semWaitWord barS 5#32 >>= fun _ => p) Q) := by
  unfold barIn lands
  iintro ⟨#HR, ⟨Hat, Hc, Ht⟩, Hl, Ho⟩ Hk
  rw [WP_bind]
  ihave Hl := (Entails.of_eq (lend (F := F) c)) $$ Hl
  ihave Hs := (show iprop((bigSep Finset.univ fun d : Fin 5 => dutyTok ER (barCell (nb d c)) 0 d) ∗ bigSep Finset.univ fun d : Fin 5 => barPay (F := F) (nb d c) d)
    ⊢ (bigSep Finset.univ (sigSt c 0) : sProp 𝕄) from Entails.of_eq (by
      rw [← bigSep_sep']
      exact bigSep_congr fun d _ => (if_neg (Nat.not_lt_zero _)).symm)) $$ [Ht Hl]
  · isplitl [Ht] <;> iassumption
  ihave HS := (show iprop(records m K ∗ bigSep Finset.univ (sigSt c 0) ∗ ow c (owB c 5)) ⊢ InvS m K c 0 from .rfl) $$ [Hs Ho]
  · isplitr; · iexact HR
    isplitl [Hs] <;> iassumption
  iapply (loop_spec c _ (InvS m K c) 5 0 fun e _ he => signal_step m K c e (by omega)) $$ HS
  iintro HS
  ihave HS := (show InvS m K c (0 + 5) ⊢ ow c (owS c 40) from by
    unfold InvS; iintro ⟨-, -, H⟩; iexact H) $$ HS
  rw [WP_bind]
  iapply (barrier_wait m K c) $$ [Hat Hc HS]
  · isplitr; · iexact HR
    isplitl [Hc]; · iexact Hc
    isplitl [Hat]; · iexact Hat
    iexact HS
  iintro ⟨Hat, Ho, Hp⟩
  iapply Hk
  isplitl [Hat]; · iexact Hat
  isplitl [Ho]; · iexact Ho
  ihave Hp := (Entails.of_eq (borrow (F := F) c)) $$ Hp
  iexact Hp

/-! ## The phases in a row -/

/-- The two slots of every stream. -/
def slots (c : Dev nD) : sProp 𝕄 :=
  bigSep Finset.univ fun k : Fin 8 => iprop((∃ X, stO (F := F) c k 0 fullShare X) ∗ (∃ X, stO (F := F) c k 1 fullShare X))
/-- The positions, tokens and credits of the copies. -/
def copies (c : Dev nD) : sProp 𝕄 :=
  iprop((bigSep Finset.univ fun k : Fin 8 => Rc (F := F) c k 0) ∗ bigSep Finset.univ fun p : Fin 8 × Fin 5 => sndTok (F := F) c p.1 p.2)

theorem pre_intro (c : Dev nD) :
    iprop(copies c ∗ slots c ∗ bigSep Finset.univ fun p : Fin 8 × Fin 5 => rcE (F := F) (ptn p.1 p.2 c) p.1 p.2) ⊢ bigSep Finset.univ (strSt m c 0) := by
  unfold copies slots
  iintro ⟨⟨Hr, Ht⟩, Hs, Hl⟩
  ihave Hsn := (show iprop((bigSep Finset.univ fun p : Fin 8 × Fin 5 => sndTok (F := F) c p.1 p.2) ∗ bigSep Finset.univ fun p : Fin 8 × Fin 5 => rcE (F := F) (ptn p.1 p.2 c) p.1 p.2)
    ⊢ bigSep Finset.univ fun k : Fin 8 => Sn c k 0 0 from Entails.of_eq (by
      rw [← bigSep_sep', bigSep_univ_prod]
      refine bigSep_congr fun k _ => ?_
      unfold Sn
      exact bigSep_congr fun i _ => ((if_neg (Nat.not_lt_zero _)).trans (if_neg (Nat.not_lt_zero _))).symm)) $$ [Ht Hl]
  · isplitl [Ht] <;> iassumption
  ihave H := (show iprop((bigSep Finset.univ fun k : Fin 8 => Rc (F := F) c k 0) ∗ (bigSep Finset.univ fun k : Fin 8 => Sn (F := F) c k 0 0)
      ∗ bigSep Finset.univ fun k : Fin 8 => iprop((∃ X, stO (F := F) c k 0 fullShare X) ∗ (∃ X, stO (F := F) c k 1 fullShare X)))
    ⊢ bigSep Finset.univ (strSt m c 0) from Entails.of_eq (by
      rw [← bigSep_sep', ← bigSep_sep']
      exact bigSep_congr fun k _ => (if_neg (Nat.not_lt_zero _)).symm)) $$ [Hr Hsn Hs]
  · isplitl [Hr]; · iexact Hr
    isplitl [Hsn] <;> iassumption
  iexact H

theorem InvA_B (K : Dev nD × CI → ℕ) (c : Dev nD) :
    InvA m K c (4 * 2) ⊢ iprop((buf c cc0_stg3_0 (kv m c) ∗ buf c cc0_stg4_0 (vv m c)) ∗ InvB m K c 0) := by
  unfold InvA InvB
  rw [show bigSep Finset.univ (strSt m c (4 * 2)) = bigSep Finset.univ (exSt m c 0) from bigSep_congr fun k _ => by
    have := k.isLt
    unfold exSt
    rw [show strSt m c (4 * 2) k = Strm m c k 0 from if_pos this, show (0 + 7 - k.val) / 8 = 0 by omega]]
  iintro ⟨#HR, Hb, Hs, Ho⟩
  isplitl [Hb]; · iexact Hb
  isplitr; · iexact HR
  isplitl [Hs] <;> iassumption

theorem InvB_C (K : Dev nD × CI → ℕ) (c : Dev nD) : InvB m K c (32 + 8) ⊢ InvC m K c 0 := by
  unfold InvB InvC
  rw [show bigSep Finset.univ (exSt m c (32 + 8)) = bigSep Finset.univ (endSt m c 0) from bigSep_congr fun k _ => by
    have := k.isLt
    unfold exSt
    rw [show endSt m c 0 k = Strm m c k 5 from if_neg (Nat.not_lt_zero _), show (32 + 8 + 7 - k.val) / 8 = 5 by omega]]

theorem InvC_end (K : Dev nD × CI → ℕ) (c : Dev nD) : InvC m K c (0 + 8) ⊢ iprop(bigSep Finset.univ (Done m c) ∗ ow c 0) := by
  unfold InvC
  rw [show bigSep Finset.univ (endSt m c (0 + 8)) = bigSep Finset.univ (Done m c) from bigSep_congr fun k _ => if_pos k.isLt]
  iintro ⟨-, Hs, Ho⟩
  isplitl [Hs]; · iexact Hs
  iexact Ho

theorem WP_dev (c : Dev nD) (Q : Dev nD → sProp 𝕄) : Q c ⊢ WP c (Prog.lift .deviceId) Q := by
  unfold WP Prog.lift
  rw [wp_deviceId]
  iintro H
  rw [wp_ret]; imodintro; iexact H

/-- The phases after the barrier. -/
def restP (c : Dev nD) : PR F PUnit := do
  loopN (batchP c) 2 0
  loopN (stepF c) 8 0
  loopN (stepM c) 24 0
  loopN stepL 8 0
  loopN (fun e => waitSnd (Fin.ofNat 8 e) 4) 8 0
  loopN outP 2 0

def ins (c : Dev nD) : sProp 𝕄 :=
  iprop((buf c cc0_stg0_0 (xv m c) ∗ buf c cc0_stg1_0 (wqv m c)) ∗ (buf c cc0_stg3_0 (kv m c) ∗ buf c cc0_stg4_0 (vv m c)) ∗ buf c cc0_stg2_0 (wov m c))

theorem rest_spec (K : Dev nD × CI → ℕ) (c : Dev nD) (f : Buf (Elt F) (oM.view.loc (c : Thread nD τ))) (Q : PUnit → sProp 𝕄) :
    iprop(records m K ∗ bigSep Finset.univ (strSt m c 0) ∗ ins m c ∗ ob c f [] ∗ ow c (owS c 40))
      ⊢ iprop((iprop(bigSep Finset.univ (Done m c) ∗ ins m c ∗ buf c cc0_stg5_0 (outAt m c) ∗ ow c 0) -∗ Q ⟨⟩) -∗ WP c (restP c) Q) := by
  unfold ins restP
  iintro ⟨#HR, Hs, ⟨Hq, Hkv, Hw⟩, Hob, Ho⟩ Hk
  rw [WP_bind]
  ihave HQ := (show iprop((buf c cc0_stg0_0 (xv m c) ∗ buf c cc0_stg1_0 (wqv m c)) ∗ records m K ∗ (buf c cc0_stg3_0 (kv m c) ∗ buf c cc0_stg4_0 (vv m c))
    ∗ bigSep Finset.univ (strSt m c 0) ∗ ow c (owS c 40)) ⊢ InvQ m K c 0 from .rfl) $$ [Hq Hkv Hs Ho]
  · isplitl [Hq]; · iexact Hq
    isplitr; · iexact HR
    isplitl [Hkv]; · iexact Hkv
    isplitl [Hs] <;> iassumption
  iapply (loop_spec c _ (InvQ m K c) 2 0 fun e _ he => batch_step m K c e (by omega)) $$ HQ
  iintro HQ
  ihave HQ := (show InvQ m K c (0 + 2) ⊢ iprop((buf c cc0_stg0_0 (xv m c) ∗ buf c cc0_stg1_0 (wqv m c)) ∗ InvA m K c (4 * 2)) from .rfl) $$ HQ
  icases HQ with ⟨Hq, HA⟩
  ihave HA := (InvA_B m K c) $$ HA
  icases HA with ⟨Hkv, HB⟩
  rw [WP_bind]
  iapply (loop_spec c _ (InvB m K c) 8 0 fun e _ he => stepF_spec m K c e (by omega)) $$ HB
  iintro HB
  rw [WP_bind]
  iapply (loop_spec c _ (fun e => InvB m K c (8 + e)) 24 0 fun e _ he => stepM_spec m K c e (by omega)) $$ HB
  iintro HB
  rw [WP_bind]
  iapply (loop_spec c _ (fun e => InvB m K c (32 + e)) 8 0 fun e _ he => stepL_spec m K c e (by omega)) $$ HB
  iintro HB
  ihave HC := (InvB_C m K c) $$ HB
  rw [WP_bind]
  iapply (loop_spec c _ (InvC m K c) 8 0 fun e _ he => end_step m K c e (by omega)) $$ HC
  iintro HC
  ihave HC := (InvC_end m K c) $$ HC
  icases HC with ⟨HD, Ho⟩
  ihave HO := (show iprop(bigSep Finset.univ (Done m c) ∗ buf c cc0_stg2_0 (wov m c) ∗ ob c f []) ⊢ InvO m c f 0 from .rfl) $$ [HD Hw Hob]
  · isplitl [HD]; · iexact HD
    isplitl [Hw] <;> iassumption
  iapply (loop_spec c _ (InvO m c f) 2 0 fun e _ he => out_step m c f e (by omega)) $$ HO
  iintro HO
  iapply Hk
  ihave HO := (show InvO m c f (0 + 2) ⊢ iprop(bigSep Finset.univ (Done m c) ∗ buf c cc0_stg2_0 (wov m c) ∗ buf c cc0_stg5_0 (outAt m c)) from by
    unfold InvO ob buf
    rw [show (0 + 2) = 2 from rfl, out_rows m c f]) $$ HO
  icases HO with ⟨HD, Hw, Hob⟩
  isplitl [HD]; · iexact HD
  isplitl [Hq Hkv Hw]
  · isplitl [Hq]; · iexact Hq
    isplitl [Hkv] <;> iassumption
  isplitl [Hob]; · iexact Hob
  iexact Ho

theorem body_spec (K : Dev nD × CI → ℕ) (c : Dev nD) (f : Buf (Elt F) (oM.view.loc (c : Thread nD τ))) (Q : PUnit → sProp 𝕄) :
    iprop(records m K ∗ (barIn c ∗ copies c) ∗ (slots c ∗ lands c) ∗ ins m c ∗ ob c f [] ∗ ow c (owB c 5))
      ⊢ iprop((iprop(atPos ER (barCell c) 1 ∅ 0 ∗ bigSep Finset.univ (Done m c) ∗ ins m c ∗ buf c cc0_stg5_0 (outAt m c) ∗ ow c 0) -∗ Q ⟨⟩)
        -∗ WP c bodyP Q) := by
  iintro ⟨#HR, ⟨Hb, Hcp⟩, ⟨Hsl, Hl⟩, Hin, Hob, Ho⟩ Hk
  unfold bodyP
  rw [WP_bind]
  iapply (WP_dev c)
  iapply (barrier m K c (restP c)) $$ [Hb Hl Ho]
  · isplitr; · iexact HR
    isplitl [Hb]; · iexact Hb
    isplitl [Hl] <;> iassumption
  iintro ⟨Hat, Ho, Hl⟩
  ihave Hs := (pre_intro m c) $$ [Hcp Hsl Hl]
  · isplitl [Hcp]; · iexact Hcp
    isplitl [Hsl] <;> iassumption
  iapply (rest_spec m K c f) $$ [Hs Hin Hob Ho]
  · isplitr; · iexact HR
    isplitl [Hs]; · iexact Hs
    isplitl [Hin]; · iexact Hin
    isplitl [Hob] <;> iassumption
  iintro ⟨HD, Hin, Hob, Ho⟩
  iapply Hk
  isplitl [Hat]; · iexact Hat
  isplitl [HD]; · iexact HD
  isplitl [Hin]; · iexact Hin
  isplitl [Hob] <;> iassumption

/-! ## The end -/

/-- The cells of a device at zero. -/
def zeros (c : Dev nD) : sProp 𝕄 := bigSep Finset.univ fun o : CI => (semVal (kcell (c, o)) 0 : sProp 𝕄)

theorem close_all (K : Dev nD × CI → ℕ) (c : Dev nD) :
    iprop(records m K ∗ bigSep Finset.univ fun o : CI => (atPos ER (kcell (c, o)) 1 ∅ 0 : sProp 𝕄)) ⊢ |={Set.univ}=> zeros c := by
  have h : ∀ o ∈ (Finset.univ : Finset CI), iprop(records m K ∗ atPos ER (kcell (c, o)) 1 ∅ 0) ⊢ |={Set.univ}=> semVal (kcell (c, o)) 0 := fun o _ => by
    iintro ⟨#HR, Hat⟩
    iapply (Rounds.cell_close ER (Rd m) (Set.mem_univ (K (c, o))) (fun h => h) (R := 0 + 1) (duties_later m (kcell (c, o))))
    isplitr; · iapply (rec_inv m K (c, o)); iexact HR
    iexact Hat
  exact (bigSep_with_persistent h).trans (bigSep_fupd _ _)

theorem bigSep_option {I : Type} [Fintype I] [DecidableEq I] (Φ : Option I → sProp 𝕄) :
    bigSep Finset.univ Φ = iprop(Φ none ∗ bigSep Finset.univ fun i => Φ (some i)) := by
  rw [bigSep_univ_at Φ none, show (Finset.univ.erase none : Finset (Option I)) = Finset.univ.map ⟨some, Option.some_injective I⟩ from by
    ext x; cases x <;> simp, bigSep_map]
  rfl

theorem bigSep_bool (Φ : Bool → sProp 𝕄) : bigSep Finset.univ Φ = iprop(Φ false ∗ Φ true) := bigSep_univ_eq_bigSepL [false, true] (by decide) (by decide) Φ

theorem cells_eq (Φ : CI → sProp 𝕄) :
    bigSep Finset.univ Φ = iprop(Φ none ∗ (bigSep Finset.univ fun p : Fin 8 × Fin 5 => Φ (some (false, p.1, p.2))) ∗ bigSep Finset.univ fun p : Fin 8 × Fin 5 => Φ (some (true, p.1, p.2))) := by
  rw [bigSep_option, bigSep_univ_prod, bigSep_bool]

theorem done_split (c : Dev nD) :
    bigSep Finset.univ (Done m c) ⊢ iprop((bigSep Finset.univ fun p : Fin 8 × Fin 5 => sndEnd (F := F) c p.1 p.2)
      ∗ (bigSep Finset.univ fun p : Fin 8 × Fin 5 => rcvEnd (F := F) c p.1 p.2) ∗ slots c ∗ lands c) := by
  have hr : (bigSep Finset.univ fun k : Fin 8 => Rc (F := F) c k 5) = iprop((bigSep Finset.univ fun p : Fin 8 × Fin 5 => rcvEnd (F := F) c p.1 p.2) ∗ lands c) := by
    unfold lands
    rw [← bigSep_sep', bigSep_univ_prod]
    refine bigSep_congr fun k _ => ?_
    unfold Rc
    exact bigSep_congr fun i _ => if_pos i.isLt
  have hs : (bigSep Finset.univ fun k : Fin 8 => Sn (F := F) c k 5 5) = bigSep Finset.univ fun p : Fin 8 × Fin 5 => sndEnd (F := F) c p.1 p.2 := by
    rw [bigSep_univ_prod]
    refine bigSep_congr fun k _ => ?_
    unfold Sn
    exact bigSep_congr fun i _ => if_pos i.isLt
  have hd : ∀ k ∈ (Finset.univ : Finset (Fin 8)), Done m c k ⊢ iprop(Rc c k 5 ∗ Sn c k 5 5 ∗ (∃ X, stO (F := F) c k 0 fullShare X) ∗ (∃ X, stO (F := F) c k 1 fullShare X)) := fun k _ => by
    unfold Done
    iintro ⟨H1, H2, H3, H4⟩
    isplitl [H1]; · iexact H1
    isplitl [H2]; · iexact H2
    isplitl [H4]; · iexists _; iexact H4
    iexists _; iexact H3
  have h : bigSep Finset.univ (Done m c) ⊢ iprop(((bigSep Finset.univ fun p : Fin 8 × Fin 5 => rcvEnd (F := F) c p.1 p.2) ∗ lands c)
      ∗ (bigSep Finset.univ fun p : Fin 8 × Fin 5 => sndEnd (F := F) c p.1 p.2) ∗ slots c) :=
    (bigSep_mono hd).trans (by unfold slots; rw [bigSep_sep', bigSep_sep', hr, hs]; exact BI.Entails.refl _)
  iintro HD
  ihave HD := h $$ HD
  icases HD with ⟨⟨H1, H2⟩, H3, H4⟩
  isplitl [H3]; · iexact H3
  isplitl [H1]; · iexact H1
  isplitl [H4] <;> iassumption

theorem finish (K : Dev nD × CI → ℕ) (c : Dev nD) :
    iprop(records m K ∗ atPos ER (barCell c) 1 ∅ 0 ∗ bigSep Finset.univ (Done m c)) ⊢ |={Set.univ}=> iprop(zeros c ∗ slots c ∗ lands c) := by
  iintro ⟨#HR, Hb, HD⟩
  ihave HD := (done_split m c) $$ HD
  icases HD with ⟨Hs, Hr, Hsl, Hl⟩
  imod (close_all m K c) $$ [Hb Hs Hr] with Hz
  · isplitr; · iexact HR
    rw [cells_eq]
    isplitl [Hb]; · iexact Hb
    isplitl [Hs]; · iexact Hs
    iexact Hr
  imodintro
  isplitl [Hz]; · iexact Hz
  isplitl [Hsl] <;> iassumption

/-! ## The exchange buffers in pieces -/

theorem st_set (k : Fin 8) (s : Fin 2) : (stW k s).view.set = (stR k s).set :=
  (window_set stM (stR k s) (fun _ => rfl) squeezes_S1x1x144x128_S144x128).trans (View.set_slice_whole cc0_scratch0 (stR k s))
theorem rc_set (k : Fin 8) (i : Fin 5) : (rcW k i).view.set = (rcR k i).set :=
  (window_set rcM (rcR k i) (fun _ => rfl) squeezes_S1x1x144x128_S144x128).trans (View.set_slice_whole cc0_scratch1 (rcR k i))

abbrev stI (c : Dev nD) (p : Fin 8 × Fin 2) : Finset (Idx ((c : Thread nD τ).loc cc0_scratch0)) := (stW p.1 p.2).view.set
abbrev rcI (c : Dev nD) (p : Fin 8 × Fin 5) : Finset (Idx ((c : Thread nD τ).loc cc0_scratch1)) := (rcW p.1 p.2).view.set

theorem st_disj (c : Dev nD) (a b : Fin 8 × Fin 2) (h : a ≠ b) : Disjoint (stI c a) (stI c b) := by
  unfold stI; rw [st_set, st_set]
  by_cases h0 : a.1 = b.1
  · have h1 : a.2.val ≠ b.2.val := fun e => h (Prod.ext h0 (Fin.ext e))
    exact Rect.unit_disjoint 1 (by show a.2.val + 1 ≤ b.2.val ∨ b.2.val + 1 ≤ a.2.val; omega)
  · have h1 : a.1.val ≠ b.1.val := fun e => h0 (Fin.ext e)
    exact Rect.unit_disjoint 0 (by show a.1.val + 1 ≤ b.1.val ∨ b.1.val + 1 ≤ a.1.val; omega)

theorem rc_disj (c : Dev nD) (a b : Fin 8 × Fin 5) (h : a ≠ b) : Disjoint (rcI c a) (rcI c b) := by
  unfold rcI; rw [rc_set, rc_set]
  by_cases h0 : a.1 = b.1
  · have h1 : a.2.val ≠ b.2.val := fun e => h (Prod.ext h0 (Fin.ext e))
    exact Rect.unit_disjoint 1 (by show a.2.val + 1 ≤ b.2.val ∨ b.2.val + 1 ≤ a.2.val; omega)
  · have h1 : a.1.val ≠ b.1.val := fun e => h0 (Fin.ext e)
    exact Rect.unit_disjoint 0 (by show a.1.val + 1 ≤ b.1.val ∨ b.1.val + 1 ≤ a.1.val; omega)

theorem st_cover (c : Dev nD) : Finset.univ.biUnion (stI c) = Finset.univ :=
  Finset.eq_univ_of_forall fun x => Finset.mem_biUnion.mpr ⟨(x 0, x 1), Finset.mem_univ _, by
    unfold stI; rw [st_set]
    refine Rect.mem_set_unit.mpr fun a => ?_
    fin_cases a
    · exact ⟨le_rfl, Nat.lt_succ_self _⟩
    · exact ⟨le_rfl, Nat.lt_succ_self _⟩
    · exact ⟨Nat.zero_le _, by have : (x 2).val < 144 := (x 2).isLt; show (x 2).val < 0 + 144; omega⟩
    · exact ⟨Nat.zero_le _, by have : (x 3).val < 128 := (x 3).isLt; show (x 3).val < 0 + 128; omega⟩⟩

theorem rc_cover (c : Dev nD) : Finset.univ.biUnion (rcI c) = Finset.univ :=
  Finset.eq_univ_of_forall fun x => Finset.mem_biUnion.mpr ⟨(x 0, x 1), Finset.mem_univ _, by
    unfold rcI; rw [rc_set]
    refine Rect.mem_set_unit.mpr fun a => ?_
    fin_cases a
    · exact ⟨le_rfl, Nat.lt_succ_self _⟩
    · exact ⟨le_rfl, Nat.lt_succ_self _⟩
    · exact ⟨Nat.zero_le _, by have : (x 2).val < 144 := (x 2).isLt; show (x 2).val < 0 + 144; omega⟩
    · exact ⟨Nat.zero_le _, by have : (x 3).val < 128 := (x 3).isLt; show (x 3).val < 0 + 128; omega⟩⟩

/-- The two exchange buffers, whole. -/
def stAll (c : Dev nD) : sProp 𝕄 := iprop(∃ f : Buf (Elt F) ((c : Thread nD τ).loc cc0_scratch0), ((c : Thread nD τ).loc cc0_scratch0) ↦{fullShare} f)
def rcAll (c : Dev nD) : sProp 𝕄 := iprop(∃ f : Buf (Elt F) ((c : Thread nD τ).loc cc0_scratch1), ((c : Thread nD τ).loc cc0_scratch1) ↦{fullShare} f)

theorem slots_eq (c : Dev nD) : slots (F := F) c = bigSep Finset.univ fun p : Fin 8 × Fin 2 => iprop(∃ X, stO (F := F) c p.1 p.2 fullShare X) := by
  unfold slots
  rw [bigSep_univ_prod]
  exact bigSep_congr fun k _ => (bigSep_univ_eq_bigSepL [(0 : Fin 2), 1] (by decide) (by decide) (fun s : Fin 2 => iprop(∃ X, stO (F := F) c k s fullShare X))).symm

theorem stO_some (c : Dev nD) (k : Fin 8) (s : Fin 2) :
    iprop(∃ X, stO (F := F) c k s fullShare X) ⊢ iprop(∃ f : Buf (Elt F) ((c : Thread nD τ).loc cc0_scratch0), ((c : Thread nD τ).loc cc0_scratch0) ↦[(stW k s).view.set]{fullShare} f) := by
  unfold stO owns
  iintro ⟨%X, %f, -, H⟩
  iexists f; iexact H
theorem rcE_some (c : Dev nD) (k : Fin 8) (i : Fin 5) :
    rcE (F := F) c k i ⊢ iprop(∃ f : Buf (Elt F) ((c : Thread nD τ).loc cc0_scratch1), ((c : Thread nD τ).loc cc0_scratch1) ↦[(rcW k i).view.set]{fullShare} f) := by
  unfold rcE rcO owns
  iintro ⟨%X, %f, -, H⟩
  iexists f; iexact H

theorem slots_of (c : Dev nD) : stAll (F := F) c ⊢ slots c := by
  rw [slots_eq]
  unfold stAll
  iintro ⟨%f, H⟩
  ihave H := (Entails.of_eq (Ring.pointsTo_blocks (stI c) (st_disj c) (st_cover c) f)) $$ H
  have h : ∀ p ∈ (Finset.univ : Finset (Fin 8 × Fin 2)), (((c : Thread nD τ).loc cc0_scratch0) ↦[(stW p.1 p.2).view.set]{fullShare} f : sProp 𝕄)
      ⊢ iprop(∃ X, stO (F := F) c p.1 p.2 fullShare X) := fun p _ => by
    iintro H
    iexists ((stW p.1 p.2).view.read (Elt F) f)
    unfold stO
    iapply (owns_intro (c : Thread nD τ) (stW p.1 p.2) fullShare f); iexact H
  iapply (show bigSep Finset.univ (fun p : Fin 8 × Fin 2 => (((c : Thread nD τ).loc cc0_scratch0) ↦[stI c p]{fullShare} f : sProp 𝕄)) ⊢ _ from bigSep_mono h); iexact H
theorem lands_of (c : Dev nD) : rcAll (F := F) c ⊢ lands c := by
  unfold rcAll lands
  iintro ⟨%f, H⟩
  ihave H := (Entails.of_eq (Ring.pointsTo_blocks (rcI c) (rc_disj c) (rc_cover c) f)) $$ H
  have h : ∀ p ∈ (Finset.univ : Finset (Fin 8 × Fin 5)), (((c : Thread nD τ).loc cc0_scratch1) ↦[(rcW p.1 p.2).view.set]{fullShare} f : sProp 𝕄)
      ⊢ rcE (F := F) c p.1 p.2 := fun p _ => by
    unfold rcE
    iintro H
    iexists ((rcW p.1 p.2).view.read (Elt F) f)
    unfold rcO
    iapply (owns_intro (c : Thread nD τ) (rcW p.1 p.2) fullShare f); iexact H
  iapply (show bigSep Finset.univ (fun p : Fin 8 × Fin 5 => (((c : Thread nD τ).loc cc0_scratch1) ↦[rcI c p]{fullShare} f : sProp 𝕄)) ⊢ _ from bigSep_mono h); iexact H

theorem of_slots (c : Dev nD) : slots (F := F) c ⊢ stAll c := by
  rw [slots_eq]
  unfold stAll
  have h : ∀ p ∈ (Finset.univ : Finset (Fin 8 × Fin 2)), iprop(∃ X, stO (F := F) c p.1 p.2 fullShare X) ⊢ _ := fun p _ => stO_some c p.1 p.2
  exact (bigSep_mono h).trans (Ring.pointsTo_blocks_join_exists (stI c) (st_disj c) (st_cover c) (Classical.arbitrary _))
theorem of_lands (c : Dev nD) : lands (F := F) c ⊢ rcAll c := by
  unfold lands rcAll
  have h : ∀ p ∈ (Finset.univ : Finset (Fin 8 × Fin 5)), rcE (F := F) c p.1 p.2 ⊢ _ := fun p _ => rcE_some c p.1 p.2
  exact (bigSep_mono h).trans (Ring.pointsTo_blocks_join_exists (rcI c) (rc_disj c) (rc_cover c) (Classical.arbitrary _))

end Cert.XAttn

end
-- ==== Proof.Launch.lean ====
/-
# The launch

The cells' ghost state minted and dealt to the devices, the credits counted, and the run of the whole program: on every
device the result array ends at the computed contents, the arguments are as they were, and every counter is zero.
-/
module

public import proofs.«01_k».proof.Proof.Whole
public import proofs.«01_k».proof.Proof.Gen.KernelIdeal.Points
public import Idealize.ShloMosaic.Lib.Pipeline.CollectiveSegs

@[expose] public section

noncomputable section

namespace Cert.XAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Minting -/

def ringCells : Finset (GSem nD τ sig) := Finset.univ.map ⟨kcell, kcell_injective⟩

/-- A device's own cells' duty tokens. -/
def tokOf (x : Dev nD × (Fin 5 ⊕ OI)) : GSem nD τ sig × ℕ × Fin 5 := match x.2 with
  | .inl d => (kcell (x.1, none), 0, d)
  | .inr o => (kcell (x.1, some o), 0, 0)

theorem tokOf_injective : Function.Injective tokOf := by
  rintro ⟨c, d | o⟩ ⟨c', d' | o'⟩ h
  · have h1 := kcell_injective (show kcell (c, none) = kcell (c', none) from congrArg Prod.fst h)
    have h2 : d = d' := congrArg (fun x : GSem nD τ sig × ℕ × Fin 5 => x.2.2) h
    rw [h2, (Prod.mk.inj h1).1]
  · have h1 := kcell_injective (show kcell (c, none) = kcell (c', some o') from congrArg Prod.fst h)
    cases (Prod.mk.inj h1).2
  · have h1 := kcell_injective (show kcell (c, some o) = kcell (c', none) from congrArg Prod.fst h)
    cases (Prod.mk.inj h1).2
  · have h1 := kcell_injective (show kcell (c, some o) = kcell (c', some o') from congrArg Prod.fst h)
    rw [(Prod.mk.inj h1).1, Option.some.inj (Prod.mk.inj h1).2]

def ringToks : Finset (GSem nD τ sig × ℕ × Fin 5) := Finset.univ.map ⟨tokOf, tokOf_injective⟩

def u₀ : UU := (initOf (Pipeline.cells cfgs cellOf_inj) (Pipeline.launchToks cfgs cellOf_inj), initOf ringCells ringToks)

def toks (c : Dev nD) : sProp 𝕄 :=
  iprop((bigSep Finset.univ fun d : Fin 5 => dutyTok ER (barCell c) 0 d)
    ∗ (bigSep Finset.univ fun p : Fin 8 × Fin 5 => dutyTok ER (sndCell c p.1 p.2) 0 (0 : Fin 5))
    ∗ bigSep Finset.univ fun p : Fin 8 × Fin 5 => dutyTok ER (rcvCell c p.1 p.2) 0 (0 : Fin 5))

/-- Of each cell of a device: where its owner stands. -/
def stands (c : Dev nD) : sProp 𝕄 := bigSep Finset.univ fun o : CI => (atPos ER (kcell (c, o)) 0 ∅ 0 : sProp 𝕄)

def G (c : Dev nD) : sProp 𝕄 :=
  iprop((bigSep Finset.univ fun o : CI => roundState ER (Rd m) (kcell (c, o)) 0)
    ∗ (stands c ∗ bigSep Finset.univ fun o : CI => reached ER (kcell (c, o)) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun o : CI => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_prod (fun x : Bool × Fin 8 × Fin 5 => _), bigSep_bool]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G stands; simp only [bigSep_sep']
  isplitl [Hst']; · iexact Hst'
  isplitl [Hat' Hr']
  · isplitl [Hat'] <;> iassumption
  iexact Htok'

/-! ## The cells opened -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros
  rw [bigSep_option, unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : CI => iprop(∃ κ : ℕ, cellInv ER (Rd m) κ (kcell (c, o))))
          ∗ (stands c ∗ bigSep Finset.univ fun o : CI => reached ER (kcell (c, o)) 0) ∗ toks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun o : CI => roundState ER (Rd m) (kcell (c, o)) 0)
      ⊢ (|={Set.univ}=> bigSep Finset.univ fun o : CI => iprop(∃ κ : ℕ, cellInv ER (Rd m) κ (kcell (c, o))) : sProp 𝕄) from by
        unfold zeros
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device knows, the levels apart. -/
def recs (K : Dev nD × CI → ℕ) : sProp 𝕄 :=
  iprop((bigSep Finset.univ fun ck : Dev nD × CI => cellInv ER (Rd m) (K ck) (kcell ck)) ∗ bigSep Finset.univ fun ck : Dev nD × CI => reached ER (kcell ck) 0)
instance recs_persistent (K : Dev nD × CI → ℕ) : BI.Persistent (recs m K) := by unfold recs; infer_instance

/-- The tokens of the duties that device `c` itself pays. -/
def payToks (c : Dev nD) : sProp 𝕄 :=
  iprop((bigSep Finset.univ fun d : Fin 5 => dutyTok ER (barCell (nb d c)) 0 d)
    ∗ (bigSep Finset.univ fun p : Fin 8 × Fin 5 => dutyTok ER (sndCell c p.1 p.2) 0 (0 : Fin 5))
    ∗ bigSep Finset.univ fun p : Fin 8 × Fin 5 => dutyTok ER (rcvCell (ptn p.1 p.2 c) p.1 p.2) 0 (0 : Fin 5))

def G' (c : Dev nD) : sProp 𝕄 := iprop(∃ K, recs m K ∗ stands c ∗ payToks c)

/-- Every neighbour map is a permutation of the devices. -/
def nbE (d : Fin 5) : Dev nD ≃ Dev nD := ⟨nb d, nb d, nb_nb d, nb_nb d⟩

theorem around {I : Type} [Fintype I] (dim : I → Fin 5) (Φ : I → Dev nD → sProp 𝕄) :
    (bigSep Finset.univ fun c : Dev nD => bigSep Finset.univ fun i => Φ i c) = bigSep Finset.univ fun c : Dev nD => bigSep Finset.univ fun i => Φ i (nb (dim i) c) := by
  rw [BI.bigSep_univ_comm, BI.bigSep_univ_comm (fun (c : Dev nD) i => Φ i (nb (dim i) c))]
  exact bigSep_congr fun i _ => bigSep_univ_equiv (nbE (dim i)) (Φ i)

theorem toks_around : (bigSep Finset.univ fun c : Dev nD => (toks c : sProp 𝕄)) = bigSep Finset.univ fun c : Dev nD => payToks c := by
  unfold toks payToks
  rw [bigSep_sep', bigSep_sep', bigSep_sep', bigSep_sep', around (F := F) (fun d : Fin 5 => d) (fun d c => dutyTok ER (barCell c) 0 d),
    around (F := F) (fun p : Fin 8 × Fin 5 => dimF p.1 p.2) (fun p c => dutyTok ER (rcvCell c p.1 p.2) 0 (0 : Fin 5))]

theorem regroup :
    (bigSep Finset.univ fun c : Dev nD => iprop((bigSep Finset.univ fun o : CI => iprop(∃ κ : ℕ, cellInv ER (Rd m) κ (kcell (c, o))))
          ∗ (stands c ∗ bigSep Finset.univ fun o : CI => reached ER (kcell (c, o)) 0) ∗ toks c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    ← bigSep_univ_prod (fun ck : Dev nD × CI => (reached ER (kcell ck) 0 : sProp 𝕄)), toks_around]
  iintro ⟨HI, ⟨Hat, #HR⟩, Htk⟩
  ihave HK := (BI.bigSep_exists_pi Finset.univ (fun (ck : Dev nD × CI) (κ : ℕ) => (cellInv ER (Rd m) κ (kcell ck) : sProp 𝕄))) $$ HI
  icases HK with ⟨%K, #HI⟩
  have hg : ∀ c ∈ (Finset.univ : Finset (Dev nD)), iprop(recs m K ∗ stands c ∗ payToks c) ⊢ G' m c := fun c _ => by
    unfold G'
    iintro H
    iexists K; iexact H
  ihave HP := (show iprop((bigSep Finset.univ fun c : Dev nD => (stands c : sProp 𝕄)) ∗ bigSep Finset.univ fun c : Dev nD => (payToks c : sProp 𝕄))
    ⊢ bigSep Finset.univ fun c : Dev nD => iprop(stands c ∗ payToks c) from Entails.of_eq (bigSep_sep' _ _ _).symm) $$ [Hat Htk]
  · isplitl [Hat] <;> iassumption
  iapply (show iprop(recs m K ∗ bigSep Finset.univ fun c : Dev nD => iprop(stands c ∗ payToks c)) ⊢ bigSep Finset.univ (G' m) from BI.bigSep_with_persistent hg)
  isplitr
  · unfold recs; isplitl; · iexact HI
    iexact HR
  iexact HP

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_eq_iff {a b : Dev nD} : barCell a = barCell b ↔ a = b :=
  ⟨fun h => congrArg (fun g : GSem nD τ sig => g.1.1) h, fun h => h ▸ rfl⟩
theorem rcv_eq_iff {a b : Dev nD} {k k' : Fin 8} {i i' : Fin 5} : rcvCell a k i = rcvCell b k' i' ↔ a = b ∧ k = k' ∧ i = i' := by
  refine ⟨fun h => ?_, fun ⟨h1, h2, h3⟩ => by rw [h1, h2, h3]⟩
  have h' := kcell_injective (show kcell (a, some (true, k, i)) = kcell (b, some (true, k', i')) from h)
  have h2 := Prod.mk.inj (Prod.mk.inj (Option.some.inj (Prod.mk.inj h').2)).2
  exact ⟨(Prod.mk.inj h').1, h2.1, h2.2⟩
theorem rcv_ne_bar (a b : Dev nD) (k : Fin 8) (i : Fin 5) : rcvCell a k i ≠ barCell b := fun h => by
  have h' := kcell_injective (show kcell (a, some (true, k, i)) = kcell (b, none) from h)
  cases (Prod.mk.inj h').2

theorem owS_sum (d : Dev nD) (n : ℕ) (g : GSem nD τ sig) :
    owS d n g () = ∑ j ∈ Finset.range n, if g = rcvCell (ptn (eK (39 - j)) (eI (39 - j)) d) (eK (39 - j)) (eI (39 - j)) then N else 0 := by
  induction n with
  | zero => rfl
  | succ n ih =>
    unfold owS
    rw [Pi.add_apply, Finsupp.add_apply, tallyAt_apply, Finset.sum_range_succ, ih]
    congr 1
    by_cases h : g = rcvCell (ptn (eK (39 - n)) (eI (39 - n)) d) (eK (39 - n)) (eI (39 - n))
    · rw [if_pos ⟨h, rfl⟩, if_pos h]
    · rw [if_neg (fun x => h x.1), if_neg h]

theorem owB_sum (d : Dev nD) (n : ℕ) (g : GSem nD τ sig) :
    owB d n g () = owS d 40 g () + ∑ j ∈ Finset.range n, if g = barCell (nb (Fin.ofNat 5 (4 - j)) d) then 1 else 0 := by
  induction n with
  | zero => rfl
  | succ n ih =>
    unfold owB
    rw [Pi.add_apply, Finsupp.add_apply, tallyAt_apply, Finset.sum_range_succ, ih, Nat.add_assoc]
    congr 2
    by_cases h : g = barCell (nb (Fin.ofNat 5 (4 - n)) d)
    · rw [if_pos ⟨h, rfl⟩, if_pos h]
    · rw [if_neg (fun x => h x.1), if_neg h]

theorem nb_iff (d : Fin 5) (a b : Dev nD) : a = nb d b ↔ b = nb d a :=
  ⟨fun h => by rw [h, nb_nb], fun h => by rw [h, nb_nb]⟩

theorem owed_bar (c : Dev nD) : ∑ d : Dev nD, owB d 5 (barCell c) () = 5 := by
  have h : ∀ d : Dev nD, owB d 5 (barCell c) () = ∑ j ∈ Finset.range 5, if d = nb (Fin.ofNat 5 (4 - j)) c then 1 else 0 := fun d => by
    rw [owB_sum, owS_sum, Finset.sum_eq_zero fun j _ => if_neg fun h => rcv_ne_bar _ _ _ _ h.symm, Nat.zero_add]
    refine Finset.sum_congr rfl fun j _ => ?_
    simp only [bar_eq_iff, nb_iff (Fin.ofNat 5 (4 - j)) c d]
  rw [Finset.sum_congr rfl fun d _ => h d, Finset.sum_comm]
  simp only [Finset.sum_ite_eq', Finset.mem_univ, if_true, Finset.sum_const, Finset.card_range, smul_eq_mul]

theorem owed_rcv (c : Dev nD) (k : Fin 8) (i : Fin 5) : ∑ d : Dev nD, owB d 5 (rcvCell c k i) () = N := by
  have hk := k.isLt
  have hi := i.isLt
  have h : ∀ d : Dev nD, owB d 5 (rcvCell c k i) () = ∑ j ∈ Finset.range 40, if 8 * i.val + k.val = 39 - j then (if d = ptn k i c then N else 0) else 0 := fun d => by
    rw [owB_sum, owS_sum, Finset.sum_eq_zero (s := Finset.range 5) fun j _ => if_neg (rcv_ne_bar _ _ _ _), Nat.add_zero]
    refine Finset.sum_congr rfl fun j hj => ?_
    have hj := Finset.mem_range.mp hj
    by_cases h : 8 * i.val + k.val = 39 - j
    · have e1 : eK (39 - j) = k := Fin.ext (by show (39 - j) % 8 = k.val; omega)
      have e2 : eI (39 - j) = i := Fin.ext (by show (39 - j) / 8 % 5 = i.val; omega)
      rw [if_pos h, e1, e2]
      simp only [rcv_eq_iff, and_true, nb_iff (dimF k i) c d]
    · rw [if_neg h, if_neg]
      rw [rcv_eq_iff]
      rintro ⟨-, h1, h2⟩
      have h1 : k.val = (39 - j) % 8 := congrArg Fin.val h1
      have h2 : i.val = (39 - j) / 8 % 5 := congrArg Fin.val h2
      omega
  rw [Finset.sum_congr rfl fun d _ => h d, Finset.sum_comm,
    Finset.sum_eq_single (39 - (8 * i.val + k.val))
      (fun j hj hne => Finset.sum_eq_zero fun d _ => if_neg (by have := Finset.mem_range.mp hj; omega))
      (fun hn => absurd (Finset.mem_range.mpr (by omega)) hn)]
  rw [Finset.sum_congr rfl fun d _ => if_pos (by omega), Finset.sum_ite_eq' Finset.univ (ptn k i c) fun _ => N, if_pos (Finset.mem_univ _)]

theorem launch_bar (c : Dev nD) :
    tallyOn (barCell c) (launchCredit (Pipeline.owing fun c => owB c 5) 0 (barCell c)) = (tallyAt (barCell c) () 5 : CellTallies nD τ sig Unit) := by
  unfold tallyAt; refine congrArg _ (Finsupp.ext fun u => ?_); cases u
  rw [Pipeline.launchCredit_owing, Finsupp.single_eq_same]
  exact owed_bar c

theorem launch_rcv (c : Dev nD) (k : Fin 8) (i : Fin 5) :
    tallyOn (rcvCell c k i) (launchCredit (Pipeline.owing fun c => owB c 5) 0 (rcvCell c k i)) = (tallyAt (rcvCell c k i) () N : CellTallies nD τ sig Unit) := by
  unfold tallyAt; refine congrArg _ (Finsupp.ext fun u => ?_); cases u
  rw [Pipeline.launchCredit_owing, Finsupp.single_eq_same]
  exact owed_rcv c k i

def rcvE : Fin 8 × Fin 5 ↪ SemLoc sig := ⟨fun p => osem (true, p.1, p.2), fun a b h => by
  have h' := (Prod.mk.inj (osem_injective h)).2
  exact Prod.ext (Prod.mk.inj h').1 (Prod.mk.inj h').2⟩

theorem creds (c : Dev nD) :
    (Pipeline.launchCred (fun c => owB c 5) c : sProp 𝕄)
      ⊢ iprop(cred (tallyAt (barCell c) () 5) ∗ bigSep Finset.univ fun p : Fin 8 × Fin 5 => cred (tallyAt (rcvCell c p.1 p.2) () N)) := by
  unfold Pipeline.launchCred
  rw [bigSep_univ_at _ (SemLoc.reg barS), launch_bar]
  refine sep_mono_right ?_
  have hs : Finset.univ.map rcvE ⊆ Finset.univ.erase (SemLoc.reg barS) := fun s hs => by
    obtain ⟨p, -, rfl⟩ := Finset.mem_map.mp hs
    exact Finset.mem_erase.mpr ⟨fun h => (by cases h), Finset.mem_univ _⟩
  refine (BI.bigSep_subset hs).trans ?_
  rw [bigSep_map]
  exact Entails.of_eq (bigSep_congr fun p _ => congrArg cred (launch_rcv c p.1 p.2))

/-! ## The region -/

def start (c : Dev nD) : sProp 𝕄 := iprop(∃ K, records m K ∗ barIn c ∗ copies c)
def Φ₀ (c : Dev nD) : sProp 𝕄 := iprop(start m c ∗ slots c ∗ lands c)
def Φ₁ (c : Dev nD) : sProp 𝕄 := iprop(zeros c ∗ slots c ∗ lands c)

theorem copies_intro (c : Dev nD) :
    iprop(stands c ∗ payToks c ∗ cred (tallyAt (barCell c) () 5) ∗ bigSep Finset.univ fun p : Fin 8 × Fin 5 => cred (tallyAt (rcvCell c p.1 p.2) () N))
      ⊢ (iprop(barIn c ∗ copies c) : sProp 𝕄) := by
  have hr : (bigSep Finset.univ fun k : Fin 8 => Rc (F := F) c k 0) = iprop((bigSep Finset.univ fun p : Fin 8 × Fin 5 => (cred (tallyAt (rcvCell c p.1 p.2) () N) : sProp 𝕄))
      ∗ bigSep Finset.univ fun p : Fin 8 × Fin 5 => (atPos ER (rcvCell c p.1 p.2) 0 ∅ 0 : sProp 𝕄)) := by
    rw [← bigSep_sep', bigSep_univ_prod]
    refine bigSep_congr fun k _ => ?_
    unfold Rc
    exact bigSep_congr fun i _ => if_neg (Nat.not_lt_zero _)
  have hs : (bigSep Finset.univ fun p : Fin 8 × Fin 5 => sndTok (F := F) c p.1 p.2)
      = iprop((bigSep Finset.univ fun p : Fin 8 × Fin 5 => (atPos ER (sndCell c p.1 p.2) 0 ∅ 0 : sProp 𝕄))
        ∗ (bigSep Finset.univ fun p : Fin 8 × Fin 5 => (dutyTok ER (sndCell c p.1 p.2) 0 (0 : Fin 5) : sProp 𝕄))
        ∗ bigSep Finset.univ fun p : Fin 8 × Fin 5 => (dutyTok ER (rcvCell (ptn p.1 p.2 c) p.1 p.2) 0 (0 : Fin 5) : sProp 𝕄)) := by
    unfold sndTok
    rw [bigSep_sep', bigSep_sep']
  unfold copies barIn stands payToks
  rw [hr, hs, cells_eq]
  iintro ⟨⟨HaB, HaS, HaV⟩, ⟨HtB, HtS, HtV⟩, HcB, HcV⟩
  isplitl [HaB HcB HtB]
  · isplitl [HaB]; · iexact HaB
    isplitl [HcB]; · iexact HcB
    iexact HtB
  isplitl [HcV HaV]
  · isplitl [HcV]; · iexact HcV
    iexact HaV
  isplitl [HaS]; · iexact HaS
  isplitl [HtS]; · iexact HtS
  iexact HtV

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun c => owB c 5) c ∗ prngReg c (ρ c) ∗ G' m c)
      ⊢ |={Set.univ}=> iprop(start m c ∗ emp) := by
  rw [← levs_eq]
  unfold G' recs
  iintro ⟨-, #Hlev, Hcr, -, ⟨%K, ⟨#HI, #HR⟩, Hst, Hpt⟩⟩
  ihave Hc := (creds (F := F) c) $$ Hcr
  icases Hc with ⟨H1, HN⟩
  ihave H := (copies_intro (F := F) c) $$ [Hst Hpt H1 HN]
  · isplitl [Hst]; · iexact Hst
    isplitl [Hpt]; · iexact Hpt
    isplitl [H1] <;> iassumption
  imodintro
  unfold start records
  isplitl
  · iexists K
    isplitr
    · isplitr; · iexact HI
      isplitr; · iexact HR
      iexact Hlev
    iexact H
  · iempintro

/-! ## The pipeline's data -/

variable (ρ : Dev nD → PrngReg)

def dats (_ : Fin 1) (c : Dev nD) : Dat τ (Elt F) Unit ℕ UU ℕ cfg0 c where
  A w := m ((cfg0.win w).arr.view.loc (c : Thread nD τ))
  after w _ := match w with
    | ⟨0, _⟩ => xv m c
    | ⟨1, _⟩ => wqv m c
    | ⟨2, _⟩ => wov m c
    | ⟨3, _⟩ => kv m c
    | ⟨4, _⟩ => vv m c
    | ⟨5, _⟩ => outAt m c
  Φ t := match t with
    | ⟨0, _⟩ => Φ₀ m c
    | ⟨_ + 1, _⟩ => Φ₁ c
  q _ := fullShare
  owed t := match t with
    | ⟨0, _⟩ => owB c 5
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_buf (c : Dev nD) (b : Ref sig .tc) (X Y : b.ty.Contents (Elt F)) (h : X = Y) : stg c b X ⊢ (buf c b Y : sProp 𝕄) := by
  subst h
  unfold stg buf
  iintro ⟨%f, %hf, H⟩
  subst hf
  iexact H
theorem buf_stg (c : Dev nD) (b : Ref sig .tc) (X : b.ty.Contents (Elt F)) : (buf c b X : sProp 𝕄) ⊢ stg c b X := by
  unfold stg buf
  iintro H
  iexists X
  isplitr; · (ipureintro; rfl)
  iexact H

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ c ∗ (dats m 0 c).owesAt () t0_0.succ
    ∗ stg c cc0_stg0_0 (xv m c) ∗ stg c cc0_stg1_0 (wqv m c) ∗ stg c cc0_stg2_0 (wov m c)
    ∗ stg c cc0_stg3_0 (kv m c) ∗ stg c cc0_stg4_0 (vv m c) ∗ stg c cc0_stg5_0 (outAt m c))

theorem owes_in (c : Dev nD) : (dats m 0 c).owesAt () t0_0.castSucc ⊢ ow c (owB c 5) := by
  unfold Dat.owesAt Pipeline.owesWithin ow
  rw [show (dats m 0 c).owed t0_0.castSucc = owB c 5 from rfl]
  iintro ⟨%W, %hW, HO⟩
  iexists W; iexact HO

theorem owes_out (c : Dev nD) : ow c 0 ⊢ (dats m 0 c).owesAt () t0_0.succ := by
  unfold Dat.owesAt Pipeline.owesWithin ow
  rw [show (dats m 0 c).owed t0_0.succ = 0 from rfl]
  iintro ⟨%W, HO⟩
  iexists W
  isplitr; · ipureintro; exact fun _ _ => Or.inl trivial
  iexact HO

theorem body_run (c : Dev nD) : bodyPre m c ⊢ WP c bodyP (fun _ => bodyPost m c) := by
  unfold bodyPre Φ₀ start
  iintro ⟨⟨⟨%K, #HR, Hb, Hcp⟩, Hsl, Hl⟩, Ho, ⟨%d0, H0⟩, ⟨%d1, H1⟩, ⟨%d2, H2⟩, ⟨%d3, H3⟩, ⟨%d4, H4⟩, ⟨%d5, %f, -, H5⟩⟩
  ihave Ho := (owes_in m c) $$ Ho
  ihave H0 := (stg_buf c cc0_stg0_0 _ (xv m c) (by unfold Dat.before; rw [if_pos (fetch0_0 t0_0)]; rfl)) $$ H0
  ihave H1 := (stg_buf c cc0_stg1_0 _ (wqv m c) (by unfold Dat.before; rw [if_pos (fetch0_1 t0_0)]; rfl)) $$ H1
  ihave H2 := (stg_buf c cc0_stg2_0 _ (wov m c) (by unfold Dat.before; rw [if_pos (fetch0_2 t0_0)]; rfl)) $$ H2
  ihave H3 := (stg_buf c cc0_stg3_0 _ (kv m c) (by unfold Dat.before; rw [if_pos (fetch0_3 t0_0)]; rfl)) $$ H3
  ihave H4 := (stg_buf c cc0_stg4_0 _ (vv m c) (by unfold Dat.before; rw [if_pos (fetch0_4 t0_0)]; rfl)) $$ H4
  ihave H5 := (show (((c : Thread nD τ).loc cc0_stg5_0) ↦{fullShare} f) ⊢ (ob c f [] : sProp 𝕄) from .rfl) $$ H5
  iapply (wp_fupd frame (wpE (defs₀ (F := F)) 𝒱₀ (c : Thread nD τ) none) Set.univ bodyP (fun _ => bodyPost m c))
  iapply (body_spec m K c f (fun _ => iprop(|={Set.univ}=> bodyPost m c))) $$ [Hb Hcp Hsl Hl H0 H1 H2 H3 H4 H5 Ho]
  · isplitr; · iexact HR
    isplitl [Hb Hcp]
    · isplitl [Hb] <;> iassumption
    isplitl [Hsl Hl]
    · isplitl [Hsl] <;> iassumption
    isplitl [H0 H1 H2 H3 H4]
    · unfold ins
      isplitl [H0 H1]
      · isplitl [H0] <;> iassumption
      isplitl [H3 H4]
      · isplitl [H3] <;> iassumption
      iexact H2
    isplitl [H5]; · iexact H5
    iexact Ho
  iintro ⟨HaB, Hd, Hin, Hout, Ho⟩
  imod (finish m K c) $$ [HaB Hd] with ⟨Hz, Hsl, Hl⟩
  · isplitr; · iexact HR
    isplitl [HaB] <;> iassumption
  imodintro
  unfold bodyPost Φ₁ ins
  icases Hin with ⟨⟨H0, H1⟩, ⟨H3, H4⟩, H2⟩
  isplitl [Hz Hsl Hl]
  · isplitl [Hz]; · iexact Hz
    isplitl [Hsl] <;> iassumption
  isplitl [Ho]; · iapply (owes_out m c); iexact Ho
  isplitl [H0]; · iapply (buf_stg c cc0_stg0_0 (xv m c)); iexact H0
  isplitl [H1]; · iapply (buf_stg c cc0_stg1_0 (wqv m c)); iexact H1
  isplitl [H2]; · iapply (buf_stg c cc0_stg2_0 (wov m c)); iexact H2
  isplitl [H3]; · iapply (buf_stg c cc0_stg3_0 (kv m c)); iexact H3
  isplitl [H4]; · iapply (buf_stg c cc0_stg4_0 (vv m c)); iexact H4
  iapply (buf_stg c cc0_stg5_0 (outAt m c)); iexact Hout

set_option maxRecDepth 40000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1) (Memref.isWhole_whole _)
    cc0_scratch2 cc0_scratch3) (fun _ => bodyPost m c)
  rw [body_eq]
  exact body_run m c

/-! ## The side conditions -/

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hst⟩, ⟨%g, Hrc⟩⟩
  isplitl [Hs]; · iexact Hs
  isplitl [Hst]
  · iapply (slots_of (F := F) c)
    unfold stAll
    iexists f; iexact Hst
  · iapply (lands_of (F := F) c)
    unfold rcAll
    iexists g; iexact Hrc

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [zeros_eq]
  iintro ⟨⟨Hu, Ho⟩, Hsl, Hl⟩
  isplitl [Hu]; · iexact Hu
  isplitl [Ho]; · iexact Ho
  ihave Hsl := (of_slots (F := F) c) $$ Hsl
  ihave Hl := (of_lands (F := F) c) $$ Hl
  unfold stAll rcAll
  isplitl [Hsl]; · iexact Hsl
  iexact Hl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by
  unfold Dat.share; split <;> rfl

theorem ownSemFacts : Pipeline.OwnSemFacts cfg0.spec osem := by decide

/-! ## The run -/

/-- The memory the run starts from: every counter zero. -/
def s₀ : MemSt nD τ sig (Elt F) := ⟨m, fun _ => 0, ρ⟩

/-- What window `w`'s array holds in the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 40000 in
/-- From any memory with zero counters, every fair execution ends, with every window's array at the computed contents and
    every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun c => owB c 5) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A fetched window's array is unchanged. -/
theorem finalA_in (c : Dev nD) (w : Fin cfg0.W) (h : (cfg0.win w).isOut = false) : finalA m c w = m ((cfg0.win w).arr.view.loc (c : Thread nD τ)) :=
  (dats (F := F) m 0 c).arrAt_in w h _

/-- The five argument arrays end as they began. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans (finalA_in m c 0 rfl), (h c 1).trans (finalA_in m c 1 rfl), (h c 3).trans (finalA_in m c 3 rfl),
    (h c 4).trans (finalA_in m c 4 rfl), (h c 2).trans (finalA_in m c 2 rfl)⟩

theorem frame_run : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_kept m h.1, h.2⟩) (run_main m ρ)

end Cert.XAttn

end
-- ==== Proof.Softmax.lean ====
/-
# A softmax taken in chunks, and taken at once

Over the extended reals, with real scores: a state `(m, l, o)` of the chunked softmax stands for the sums
`E = ∑ exp s` and `N = ∑ exp s · v` of the keys so far, both scaled by `exp (-m)`. A chunk keeps that, whichever real
number the maximum is, and the quotient at the end is `N · E⁻¹`: what the kernel computes without any maximum.
The values `v` may be infinite, for every factor they meet is a positive real.
-/
module

public import Idealize.ShloMosaic.Lib.Pointwise

@[expose] public section

noncomputable section

namespace Cert.XAttn

open Idealize.ShloMosaic

/-! ## Positive factors -/

theorem pos_mul_add {r : ℝ} (hr : 0 ≤ r) (y z : EReal) : (r : EReal) * (y + z) = r * y + r * z :=
  EReal.left_distrib_of_nonneg_of_ne_top (EReal.coe_nonneg.mpr hr) (EReal.coe_ne_top r) y z

theorem pos_mul_sum {ι : Type} (S : Finset ι) {r : ℝ} (hr : 0 ≤ r) (f : ι → EReal) :
    (r : EReal) * ∑ i ∈ S, f i = ∑ i ∈ S, r * f i := by
  classical
  induction S using Finset.induction_on with
  | empty => simp
  | insert a S ha ih => rw [Finset.sum_insert ha, Finset.sum_insert ha, pos_mul_add hr, ih]

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem exp_coe (r : ℝ) : Ideal.exp (r : EReal) = (Real.exp r : EReal) := rfl

/-- The maximum of reals, from `-∞`, is `-∞` or a real; of at least one real it is a real. -/
theorem fold_max_real {n : ℕ} (s : Fin (n + 1) → ℝ) :
    ∃ M : ℝ, (Finset.univ : Finset (Fin (n + 1))).fold max (⊥ : EReal) (fun j => (s j : EReal)) = M := by
  classical
  have key : ∀ S : Finset (Fin (n + 1)), (S.fold max (⊥ : EReal) (fun j => (s j : EReal)) = ⊥ ∧ S = ∅)
      ∨ ∃ M : ℝ, S.fold max (⊥ : EReal) (fun j => (s j : EReal)) = M := by
    intro S
    induction S using Finset.induction_on with
    | empty => exact Or.inl ⟨Finset.fold_empty, rfl⟩
    | insert a S ha ih =>
      refine Or.inr ?_
      rw [Finset.fold_insert ha]
      rcases ih with ⟨h, -⟩ | ⟨M, h⟩
      · exact ⟨s a, by rw [h]; exact max_eq_left bot_le⟩
      · exact ⟨max (s a) M, by rw [h]; exact (EReal.coe_strictMono.monotone.map_max).symm⟩
  rcases key Finset.univ with ⟨-, h⟩ | h
  · exact absurd h Finset.univ_nonempty.ne_empty
  · exact h

/-! ## The state -/

/-- `(m, l, o)` stands for the sums `E` and `N`: nothing yet, or both scaled by `exp (-m)`. -/
def Stands (E : ℝ) (N : EReal) (m l o : EReal) : Prop :=
  (m = ⊥ ∧ l = 0 ∧ o = 0 ∧ E = 0 ∧ N = 0)
    ∨ ∃ M : ℝ, m = M ∧ l = ((Real.exp (-M) * E : ℝ) : EReal) ∧ o = (Real.exp (-M) : ℝ) * N

theorem stands_start : Stands 0 0 ⊥ 0 0 := Or.inl ⟨rfl, rfl, rfl, rfl, rfl⟩

theorem exp_shift (M x : ℝ) : Real.exp (x - M) = Real.exp (-M) * Real.exp x := by
  rw [← Real.exp_add]; congr 1; ring

/-- One chunk. -/
theorem stands_step {n : ℕ} {E : ℝ} {N m l o : EReal} (h : Stands E N m l o) (s : Fin (n + 1) → ℝ) (v : Fin (n + 1) → EReal)
    {m' : EReal} (hm : m' = max m ((Finset.univ : Finset (Fin (n + 1))).fold max (⊥ : EReal) fun j => (s j : EReal))) :
    Stands (E + ∑ j, Real.exp (s j)) (N + ∑ j, v j * (Real.exp (s j) : ℝ)) m'
      (l * Ideal.exp (m - m') + ∑ j, Ideal.exp ((s j : EReal) - m'))
      (o * Ideal.exp (m - m') + ∑ j, v j * Ideal.exp ((s j : EReal) - m')) := by
  obtain ⟨K, hK⟩ := fold_max_real s
  obtain ⟨M, hM⟩ : ∃ M : ℝ, m' = M := by
    rw [hm, hK]
    rcases h with ⟨rfl, -⟩ | ⟨M, rfl, -⟩
    · exact ⟨K, max_eq_right bot_le⟩
    · exact ⟨max M K, (EReal.coe_strictMono.monotone.map_max).symm⟩
  clear hm
  subst hM
  have hp : ∀ j, Ideal.exp ((s j : EReal) - (M : EReal)) = ((Real.exp (-M) * Real.exp (s j) : ℝ) : EReal) := fun j => by
    rw [← EReal.coe_sub, exp_coe, exp_shift]
  have hnn : 0 ≤ Real.exp (-M) := (Real.exp_pos _).le
  have hl : ∑ j, Ideal.exp ((s j : EReal) - (M : EReal)) = ((Real.exp (-M) * ∑ j, Real.exp (s j) : ℝ) : EReal) := by
    rw [Finset.mul_sum, coe_sum]; exact Finset.sum_congr rfl fun j _ => hp j
  have ho : ∑ j, v j * Ideal.exp ((s j : EReal) - (M : EReal)) = (Real.exp (-M) : ℝ) * ∑ j, v j * (Real.exp (s j) : ℝ) := by
    rw [pos_mul_sum _ hnn]
    refine Finset.sum_congr rfl fun j _ => ?_
    rw [hp, EReal.coe_mul, mul_left_comm]
  rw [hl, ho]
  refine Or.inr ⟨M, rfl, ?_, ?_⟩
  · rcases h with ⟨rfl, rfl, rfl, rfl, rfl⟩ | ⟨M₀, rfl, rfl, rfl⟩
    · rw [zero_mul, zero_add, zero_add]
    · rw [← EReal.coe_sub, exp_coe, ← EReal.coe_mul, ← EReal.coe_add]
      congr 1
      have : Real.exp (-M₀) * Real.exp (M₀ - M) = Real.exp (-M) := by rw [← Real.exp_add]; congr 1; ring
      rw [mul_add, mul_right_comm, this]
  · rcases h with ⟨rfl, rfl, rfl, rfl, rfl⟩ | ⟨M₀, rfl, rfl, rfl⟩
    · rw [zero_mul, zero_add, zero_add]
    · rw [← EReal.coe_sub, exp_coe, pos_mul_add hnn, mul_right_comm, ← EReal.coe_mul]
      have : Real.exp (-M₀) * Real.exp (M₀ - M) = Real.exp (-M) := by rw [← Real.exp_add]; congr 1; ring
      rw [this]

theorem div_coe (x : EReal) {r : ℝ} (hr : r ≠ 0) : Ideal.div x (r : EReal) = x * ((r⁻¹ : ℝ) : EReal) := by
  unfold Ideal.div
  rw [if_neg (by exact_mod_cast hr), EReal.coe_inv]

/-- The quotient of a state is the quotient of what it stands for. -/
theorem stands_div {E : ℝ} {N m l o : EReal} (h : Stands E N m l o) (hE : 0 < E) : Ideal.div o l = N * ((E⁻¹ : ℝ) : EReal) := by
  rcases h with ⟨-, -, -, rfl, -⟩ | ⟨M, rfl, rfl, rfl⟩
  · exact absurd hE (lt_irrefl _)
  · have hM := (Real.exp_pos (-M)).ne'
    rw [div_coe _ (mul_ne_zero hM hE.ne'), mul_comm _ N, mul_assoc, ← EReal.coe_mul]
    congr 2
    field_simp

/-! ## Sums cut in equal parts -/

theorem sum_cut {M : Type} [AddCommMonoid M] (a b : ℕ) (f : ℕ → M) :
    ∑ i : Fin a, ∑ j : Fin b, f (b * i.val + j.val) = ∑ n : Fin (a * b), f n.val := by
  rw [← Fintype.sum_prod_type' (f := fun (i : Fin a) (j : Fin b) => f (b * i.val + j.val))]
  refine Fintype.sum_equiv finProdFinEquiv _ _ fun p => ?_
  show _ = f (p.2.val + b * p.1.val)
  rw [add_comm]

end Cert.XAttn

end
-- ==== Proof.KernelOps.lean ====
/-
# The kernel's values at an index

Over the extended reals every piece of the kernel's computation is read at an index: queries, exponentials of the
scores, local sums, the quotient, the result row.
-/
module

public import proofs.«01_k».proof.Proof.Steps
public import proofs.«01_k».proof.Proof.Softmax

@[expose] public section

noncomputable section

namespace Cert.XAttn

open Cert.KernelIdeal Cert.KernelIdeal.Gen
open Idealize.ShloMosaic Idealize.ShloMosaic.TcCoe

theorem qAll_apply (x : FVec Ideal S1x128x512 .bf16) (w : FVec Ideal S512x512 .bf16) (i : Fin 128) (n : Fin 512) :
    qAll (F := Ideal) x w (ix2 i n) = (∑ a : Fin 512, x (ix3 0 i a) * w (ix2 a n)) * Ideal.ofBits .f32 0x3E000000#32 := by
  pointwise [qAll]
theorem pMat_apply (q : FVec Ideal S128x512 .bf16) (h : Fin 8) (kk : FVec Ideal S1x128x1x64 .bf16) (j i : Fin 128) :
    pMat (F := Ideal) q h kk (ix2 j i) = Ideal.exp (∑ e : Fin 64, kk (ix4 0 j 0 e) * q (ix2 i ⟨64 * h.val + e.val, by omega⟩)) := by
  pointwise [pMat]
theorem lRow_apply (q : FVec Ideal S128x512 .bf16) (h : Fin 8) (kk : FVec Ideal S1x128x1x64 .bf16) (i : Fin 128) :
    lRow (F := Ideal) q h kk (ix2 0 i) = ∑ j : Fin 128, pMat (F := Ideal) q h kk (ix2 j i) := by
  pointwise [lRow]
theorem numP_apply (q : FVec Ideal S128x512 .bf16) (h : Fin 8) (kk vv : FVec Ideal S1x128x1x64 .bf16) (d : Fin 64) (i : Fin 128) :
    numP (F := Ideal) q h kk vv (ix4 0 0 d i) = ∑ j : Fin 128, vv (ix4 0 j 0 d) * pMat (F := Ideal) q h kk (ix2 j i) := by
  pointwise [numP]
theorem denP_apply (a c : FVec Ideal S1x128 .f32) (i : Fin 128) :
    denP (F := Ideal) a c (ix4 0 0 0 i) = a (ix2 0 i) ∧ denP (F := Ideal) a c (ix4 0 0 1 i) = c (ix2 0 i) := by
  constructor <;> pointwise [denP]
theorem addV_apply (a c : FVec Ideal S144x128 .bf16) (x : S144x128.Idx) : addV (F := Ideal) a c x = a x + c x := rfl
theorem attV_apply (a : FVec Ideal S144x128 .bf16) (j : Fin 2) (d : Fin 64) (i : Fin 128) :
    attV (F := Ideal) a j (ix2 d i) = a (ix2 ⟨64 * j.val + d.val, by omega⟩ i)
      * Ideal.div (Ideal.ofBits .f32 0x3F800000#32) (a (ix2 ⟨128 + j.val, by omega⟩ i)) := by
  pointwise [attV]

/-- The eight heads of a batch row, one under the other. -/
def catV (f : Fin 8 → FVec Ideal S64x128 .bf16) : FVec Ideal S512x128 .bf16 :=
  concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
    concatenates_S64x128_S64x128_S64x128_S64x128_S64x128_S64x128_S64x128_S64x128_S512x128_d0

/-- Row `r` of the eight is row `d` of piece `h`, when `r = 64 h + d`. -/
theorem catV_row (f : Fin 8 → FVec Ideal S64x128 .bf16) (r : Fin 512) (d : Fin 64) (i : Fin 128) (h : Fin 8)
    (hr : r.val = 64 * h.val + d.val) : catV f (ix2 r i) = f h (ix2 d i) := by
  have hd := d.isLt
  have hk : ∀ (k : Fin 8) (y : Fin 64), k = h → y = d → f k (ix2 y i) = f h (ix2 d i) := fun k y e e' => by rw [e, e']
  pointwise [catV]
  by_cases h0 : r.val < 64
  · rw [dif_pos h0]; exact hk _ _ (Fin.ext (by simp; omega)) (Fin.ext (by simp; omega))
  rw [dif_neg h0]
  by_cases h0 : r.val - 64 < 64
  · rw [dif_pos h0]; exact hk _ _ (Fin.ext (by simp; omega)) (Fin.ext (by simp; omega))
  rw [dif_neg h0]
  by_cases h0 : r.val - 64 - 64 < 64
  · rw [dif_pos h0]; exact hk _ _ (Fin.ext (by simp; omega)) (Fin.ext (by simp; omega))
  rw [dif_neg h0]
  by_cases h0 : r.val - 64 - 64 - 64 < 64
  · rw [dif_pos h0]; exact hk _ _ (Fin.ext (by simp; omega)) (Fin.ext (by simp; omega))
  rw [dif_neg h0]
  by_cases h0 : r.val - 64 - 64 - 64 - 64 < 64
  · rw [dif_pos h0]; exact hk _ _ (Fin.ext (by simp; omega)) (Fin.ext (by simp; omega))
  rw [dif_neg h0]
  by_cases h0 : r.val - 64 - 64 - 64 - 64 - 64 < 64
  · rw [dif_pos h0]; exact hk _ _ (Fin.ext (by simp; omega)) (Fin.ext (by simp; omega))
  rw [dif_neg h0]
  by_cases h0 : r.val - 64 - 64 - 64 - 64 - 64 - 64 < 64
  · rw [dif_pos h0]; exact hk _ _ (Fin.ext (by simp; omega)) (Fin.ext (by simp; omega))
  rw [dif_neg h0]
  exact hk _ _ (Fin.ext (by simp; omega)) (Fin.ext (by simp; omega))

theorem outV_apply (a c d e : FVec Ideal S144x128 .bf16) (w : FVec Ideal S512x512 .bf16) (i : Fin 128) (n : Fin 512) :
    outV (F := Ideal) a c d e w (ix3 0 i n) = ∑ r : Fin 512,
      catV (fun h => attV (F := Ideal) (![a, c, d, e] ⟨h.val / 2, by omega⟩) ⟨h.val % 2, by omega⟩) (ix2 r i) * w (ix2 r n) := by
  have : outV (F := Ideal) a c d e w = shapeCast S1x128x512 (matmul (F := Ideal) dot_S512x128_S512x512_S128x512_0_0_1_1_n_n none
    (catV (fun h => attV (F := Ideal) (![a, c, d, e] ⟨h.val / 2, by omega⟩) ⟨h.val % 2, by omega⟩))
    (shapeCast S512x512 w shapeCasts_S512x512_S512x512) (constant S128x512 .f32 0x00000000#32)) shapeCasts_S128x512_S1x128x512 := rfl
  rw [this]
  pointwise

end Cert.XAttn

end
-- ==== Proof.Exchange.lean ====
/-
# The exchange

Over the extended reals, every stream ends on every device at the sum over all devices of what they began with.
-/
module

public import proofs.«01_k».proof.Proof.Protocol
public import proofs.«01_k».proof.Proof.KernelOps

@[expose] public section

noncomputable section

namespace Cert.XAttn

open Cert.KernelIdeal Cert.KernelIdeal.Gen
open Idealize.ShloMosaic Idealize.ShloMosaic.TcCoe
open Idealize.SL.Sem
open Idealize.ShloMosaic.Pipeline (Dat Cfg Window BodyObligation cellOf)

/-- The devices whose sums device `c` holds after `i` steps. -/
def orb (k : Fin 8) : ℕ → Dev nD → List (Dev nD)
  | 0, c => [c]
  | i + 1, c => orb k i c ++ orb k i (ptn k (Fin.ofNat 5 i) c)

theorem orb_all : ∀ (k : Fin 8) (c : Dev nD), (orb k 5 c).Nodup ∧ (orb k 5 c).toFinset = Finset.univ := by decide +kernel

variable (m : (ℓ : Loc nD τ sig) → Buf (Elt Ideal) ℓ)

theorem stv_orb (k : Fin 8) (x : S144x128.Idx) : ∀ (i : ℕ) (c : Dev nD),
    (stv (F := Ideal) m k i c x : EReal) = ((orb k i c).map fun d => (locV (F := Ideal) m d k x : EReal)).sum
  | 0, c => by simp [orb, stv]
  | i + 1, c => by
    rw [stv, addV_apply, stv_orb k x i, stv_orb k x i, orb, List.map_append, List.sum_append]

theorem stv_all (k : Fin 8) (x : S144x128.Idx) (c : Dev nD) :
    (stv (F := Ideal) m k 5 c x : EReal) = ∑ d : Dev nD, (locV (F := Ideal) m d k x : EReal) := by
  rw [stv_orb, ← List.sum_toFinset _ (orb_all k c).1, (orb_all k c).2]

end Cert.XAttn

end
-- ==== Proof.Arrays.lean ====
/-
# The arrays read

What the staging buffers hold, read at an index, and what the result array holds in the end.
-/
module

public import proofs.«01_k».proof.Proof.Launch
public import proofs.«01_k».proof.Proof.Softmax

@[expose] public section

noncomputable section

namespace Cert.XAttn

open Cert.KernelIdeal Cert.KernelIdeal.Gen
open Idealize.ShloMosaic Idealize.ShloMosaic.TcCoe
open Idealize.SL.Sem
open Idealize.ShloMosaic.Pipeline (Dat Cfg Window BodyObligation cellOf)

/-! ## The arrays as staged -/

section Staged

variable (m : (ℓ : Loc nD τ sig) → Buf (Elt Ideal) ℓ) (c : Dev nD)

theorem xv_eq : xv (F := Ideal) m c = m ((c : Thread nD τ).loc main_arg0) :=
  Memref.read_access_unit_zero (Elt Ideal) main_arg0 (funext fun a => by fin_cases a <;> decide) (fun a => by fin_cases a <;> decide) _
theorem wqv_eq : wqv (F := Ideal) m c = m ((c : Thread nD τ).loc main_arg1) :=
  Memref.read_access_unit_zero (Elt Ideal) main_arg1 (funext fun a => by fin_cases a <;> decide) (fun a => by fin_cases a <;> decide) _
theorem wov_eq : wov (F := Ideal) m c = m ((c : Thread nD τ).loc main_arg4) :=
  Memref.read_access_unit_zero (Elt Ideal) main_arg4 (funext fun a => by fin_cases a <;> decide) (fun a => by fin_cases a <;> decide) _
theorem kv_eq : kv (F := Ideal) m c = m ((c : Thread nD τ).loc main_arg2) :=
  Memref.read_access_unit_zero (Elt Ideal) main_arg2 (funext fun a => by fin_cases a <;> decide) (fun a => by fin_cases a <;> decide) _
theorem vv_eq : vv (F := Ideal) m c = m ((c : Thread nD τ).loc main_arg3) :=
  Memref.read_access_unit_zero (Elt Ideal) main_arg3 (funext fun a => by fin_cases a <;> decide) (fun a => by fin_cases a <;> decide) _

theorem readX (X : FVec Ideal S2x128x512 .bf16) (b : Fin 2) (i : Fin 128) (a : Fin 512) :
    xM.view.readAt (Elt Ideal) (xR b).toLoadRect X (ix3 0 i a) = X (ix3 b i a) := by
  refine congrArg X (funext fun k => Fin.ext ?_)
  fin_cases k
  · exact show b.val + 1 * 0 = b.val by omega
  · exact show 0 + 1 * i.val = i.val by omega
  · exact show 0 + 1 * a.val = a.val by omega
theorem readW (X : FVec Ideal S512x512 .bf16) : wqM.view.readAt (Elt Ideal) wR.toLoadRect X = X :=
  Memref.readAt_unit_zero (Elt Ideal) cc0_stg1_0 (funext fun a => by fin_cases a <;> decide) _ X
theorem readWo (X : FVec Ideal S512x512 .bf16) : woM.view.readAt (Elt Ideal) wR.toLoadRect X = X :=
  Memref.readAt_unit_zero (Elt Ideal) cc0_stg2_0 (funext fun a => by fin_cases a <;> decide) _ X
theorem readK (X : FVec Ideal S2x128x2x64 .bf16) (b h : Fin 2) (j : Fin 128) (e : Fin 64) :
    kM.view.readAt (Elt Ideal) (kvR b h).toLoadRect X (ix4 0 j 0 e) = X (ix4 b j h e) := by
  refine congrArg X (funext fun k => Fin.ext ?_)
  fin_cases k
  · exact show b.val + 1 * 0 = b.val by omega
  · exact show 0 + 1 * j.val = j.val by omega
  · exact show h.val + 1 * 0 = h.val by omega
  · exact show 0 + 1 * e.val = e.val by omega
theorem readV (X : FVec Ideal S2x128x2x64 .bf16) (b h : Fin 2) (j : Fin 128) (e : Fin 64) :
    vM.view.readAt (Elt Ideal) (kvR b h).toLoadRect X (ix4 0 j 0 e) = X (ix4 b j h e) := by
  refine congrArg X (funext fun k => Fin.ext ?_)
  fin_cases k
  · exact show b.val + 1 * 0 = b.val by omega
  · exact show 0 + 1 * j.val = j.val by omega
  · exact show h.val + 1 * 0 = h.val by omega
  · exact show 0 + 1 * e.val = e.val by omega

end Staged

/-! ## The result array -/

section Result

variable (m : (ℓ : Loc nD τ sig) → Buf (Elt Ideal) ℓ) (c : Dev nD)

theorem N_one : 0 < cfg0.N := by decide

theorem finalA_out : finalA (F := Ideal) m c 5 = outAt (F := Ideal) m c := by
  have h1 : (win0_5.blk (0 : Fin 1)).view.read (Elt Ideal) (finalA (F := Ideal) m c 5) = outAt (F := Ideal) m c := by
    unfold finalA
    rw [show cfg0.N = (⟨0, N_one⟩ : Fin cfg0.N).val + 1 from rfl, (dats (F := Ideal) m 0 c).arrAt_succ 5 ⟨0, N_one⟩]
    rw [show (cfg0.win 5).flush ⟨0, N_one⟩ = true from by decide, if_pos rfl]
    exact View.read_write_univ _ _
  have hr := Memref.read_access_unit_zero (Elt Ideal) main_v1
    (off := fun a => (win0_5.index (0 : Fin 1)) a * main_v1.ty.shape.size a) (funext fun a => by fin_cases a <;> decide)
    (fun a => by fin_cases a <;> decide) (finalA (F := Ideal) m c 5)
  exact hr.symm.trans h1

end Result

end Cert.XAttn

end
-- ==== Proof.RefValue.lean ====
/-
# The reference's result, chunk by chunk

The reference's composed term is written again as four chunks of one function, and every piece is read at an index.
-/
module

public import proofs.«01_k».proof.Proof.Softmax
public import proofs.«01_k».proof.Proof.Gen.ReferenceIdeal.Run

@[expose] public section

noncomputable section

namespace Cert.XAttn.Ref

open Cert.ReferenceIdeal Cert.ReferenceIdeal.Gen
open Idealize.ShloMosaic Idealize.ShloMosaic.TcCoe Idealize.SL.Sem

theorem slices_ch : ∀ t : Fin 4, S2x4096x8x64.Slices ![0, 1024 * t.val, 0, 0] S2x1024x8x64 := by decide

/-- Queries, and keys or values repeated for the heads that share them. -/
def qR (x : FVec Ideal S2x128x512 .bf16) (w : FVec Ideal S512x512 .bf16) : FVec Ideal S2x128x8x64 .f32 :=
  shapeCast _ (Host.dotGeneral (φ₁ := .f32) (φ₂ := .f32) dot_S2x128x512_S512x512_S2x128x512_2_0_01_1_n_n none (extf .f32 x bitsLt_bf16_f32) (extf .f32 w bitsLt_bf16_f32))
    shapeCasts_S2x128x512_S2x128x8x64
def kR (k : FVec Ideal S2x4096x2x64 .bf16) : FVec Ideal S2x4096x8x64 .f32 :=
  shapeCast _ (broadcastInDim S2x4096x2x4x64 ![0, 1, 2, 4] bcast_S2x4096x2x64_S2x4096x2x4x64_0_1_2_4 (extf (F := Ideal) .f32 k bitsLt_bf16_f32))
    shapeCasts_S2x4096x2x4x64_S2x4096x8x64
/-- Chunk `t` of them. -/
def chR (t : Fin 4) (k : FVec Ideal S2x4096x8x64 .f32) : FVec Ideal S2x1024x8x64 .f32 :=
  extractStridedSlice S2x1024x8x64 ![0, 1024 * t.val, 0, 0] k (slices_ch t)
/-- Scores of a chunk. -/
def sR (q : FVec Ideal S2x128x8x64 .f32) (k : FVec Ideal S2x1024x8x64 .f32) : FVec Ideal S2x8x128x1024 .f32 :=
  mulf (Host.dotGeneral dot_S2x128x8x64_S2x1024x8x64_S2x8x128x1024_3_3_1_1_02_02 none q k)
    (broadcastInDim S2x8x128x1024 ![] bcast_S_S2x8x128x1024 (constant S_ .f32 0x3E000000#32))
/-- The new maximum, the factor for what was summed before, the chunk's exponentials. -/
def mR (m : FVec Ideal S2x8x128x1 .f32) (s : FVec Ideal S2x8x128x1024 .f32) : FVec Ideal S2x8x128x1 .f32 :=
  maximumf m (broadcastInDim S2x8x128x1 ![0, 1, 2] bcast_S2x8x128_S2x8x128x1_0_1_2
    (Host.reduce FloatOps.maximumf s (constant S_ .f32 0xFF800000#32) reducesTo_S2x8x128x1024_S2x8x128_d3 h_S_))
def aR (m m' : FVec Ideal S2x8x128x1 .f32) : FVec Ideal S2x8x128x1 .f32 := Host.exp (subf m m')
def pR (s : FVec Ideal S2x8x128x1024 .f32) (m' : FVec Ideal S2x8x128x1 .f32) : FVec Ideal S2x8x128x1024 .f32 :=
  Host.exp (subf s (broadcastInDim S2x8x128x1024 ![0, 1, 2, 3] bcast_S2x8x128x1_S2x8x128x1024_0_1_2_3 m'))
def lR (l a : FVec Ideal S2x8x128x1 .f32) (p : FVec Ideal S2x8x128x1024 .f32) : FVec Ideal S2x8x128x1 .f32 :=
  addf (mulf l a) (broadcastInDim S2x8x128x1 ![0, 1, 2] bcast_S2x8x128_S2x8x128x1_0_1_2
    (Host.reduceAdd p (constant S_ .f32 0x00000000#32) reducesTo_S2x8x128x1024_S2x8x128_d3 h_S_))
def tR (a : FVec Ideal S2x8x128x1 .f32) : FVec Ideal S2x128x8x64 .f32 :=
  broadcastInDim S2x128x8x64 ![0, 1, 2, 3] bcast_S2x128x8x1_S2x128x8x64_0_1_2_3
    (transpose S2x128x8x1 [0, 2, 1, 3] a transposes_S2x8x128x1_S2x128x8x1_0_2_1_3)
def oR (o : FVec Ideal S2x128x8x64 .f32) (a : FVec Ideal S2x8x128x1 .f32) (p : FVec Ideal S2x8x128x1024 .f32)
    (v : FVec Ideal S2x1024x8x64 .f32) : FVec Ideal S2x128x8x64 .f32 :=
  addf (mulf o (tR a)) (transpose S2x128x8x64 [0, 3, 1, 2]
    (Host.dotGeneral dot_S2x1024x8x64_S2x8x128x1024_S2x8x64x128_1_3_3_2_02_01 none v p) transposes_S2x8x64x128_S2x128x8x64_0_3_1_2)

/-- The state before chunk `t`. -/
structure St where
  m : FVec Ideal S2x8x128x1 .f32
  l : FVec Ideal S2x8x128x1 .f32
  o : FVec Ideal S2x128x8x64 .f32

def st0 : St where
  m := broadcastInDim S2x8x128x1 ![] bcast_S_S2x8x128x1 (constant S_ .f32 0xFF800000#32)
  l := broadcastInDim S2x8x128x1 ![] bcast_S_S2x8x128x1 (constant S_ .f32 0x00000000#32)
  o := broadcastInDim S2x128x8x64 ![] bcast_S_S2x128x8x64 (constant S_ .f32 0x00000000#32)

def step (q : FVec Ideal S2x128x8x64 .f32) (k v : FVec Ideal S2x4096x8x64 .f32) (t : Fin 4) (σ : St) : St where
  m := mR σ.m (sR q (chR t k))
  l := lR σ.l (aR σ.m (mR σ.m (sR q (chR t k)))) (pR (sR q (chR t k)) (mR σ.m (sR q (chR t k))))
  o := oR σ.o (aR σ.m (mR σ.m (sR q (chR t k)))) (pR (sR q (chR t k)) (mR σ.m (sR q (chR t k)))) (chR t v)

/-- The result from the last state. -/
def attR (σ : St) : FVec Ideal S2x128x8x64 .f32 := Host.divf σ.o (tR σ.l)
def finR (a : FVec Ideal S2x128x8x64 .f32) (w : FVec Ideal S512x512 .bf16) : FVec Ideal S2x128x512 .f32 :=
  Host.dotGeneral (φ₁ := .f32) (φ₂ := .f32) dot_S2x128x512_S512x512_S2x128x512_2_0_01_1_n_n none (shapeCast _ a shapeCasts_S2x128x8x64_S2x128x512) (extf .f32 w bitsLt_bf16_f32)

def endSt (q : FVec Ideal S2x128x8x64 .f32) (k v : FVec Ideal S2x4096x8x64 .f32) : St :=
  step q k v 3 (step q k v 2 (step q k v 1 (step q k v 0 st0)))

set_option maxRecDepth 20000 in
set_option maxHeartbeats 4000000 in
theorem res_eq (m : (ℓ : Loc nD τ sig) → Buf (Elt Ideal) ℓ) (c : Dev nD) :
    Cert.ReferenceIdeal.Value.res_main_v110 (F := Ideal) m c
      = finR (attR (endSt (qR (m ((c.tc : Thread nD τ).loc main_arg0)) (m ((c.tc : Thread nD τ).loc main_arg1)))
          (kR (m ((c.tc : Thread nD τ).loc main_arg2))) (kR (m ((c.tc : Thread nD τ).loc main_arg3)))))
        (m ((c.tc : Thread nD τ).loc main_arg4)) := rfl

/-! ## At an index -/

theorem qR_apply (x : FVec Ideal S2x128x512 .bf16) (w : FVec Ideal S512x512 .bf16) (b : Fin 2) (i : Fin 128) (h : Fin 8) (e : Fin 64) :
    qR x w (ix4 b i h e) = ∑ a : Fin 512, x (ix3 b i a) * w (ix2 a ⟨h.val * 64 + e.val, by omega⟩) := by
  pointwise [qR]
theorem kR_apply (k : FVec Ideal S2x4096x2x64 .bf16) (b : Fin 2) (j : Fin 4096) (h : Fin 8) (e : Fin 64) :
    kR k (ix4 b j h e) = k (ix4 b j ⟨h.val / 4, by omega⟩ e) := by
  pointwise [kR]
theorem chR_apply (t : Fin 4) (k : FVec Ideal S2x4096x8x64 .f32) (b : Fin 2) (j : Fin 1024) (h : Fin 8) (e : Fin 64) :
    chR t k (ix4 b j h e) = k (ix4 b ⟨1024 * t.val + j.val, by omega⟩ h e) := by
  pointwise [chR]
theorem sR_apply (q : FVec Ideal S2x128x8x64 .f32) (k : FVec Ideal S2x1024x8x64 .f32) (b : Fin 2) (h : Fin 8) (i : Fin 128) (j : Fin 1024) :
    sR q k (ix4 b h i j) = (∑ e : Fin 64, q (ix4 b i h e) * k (ix4 b j h e)) * Ideal.ofBits .f32 0x3E000000#32 := by
  pointwise [sR]
theorem mR_apply (m : FVec Ideal S2x8x128x1 .f32) (s : FVec Ideal S2x8x128x1024 .f32) (b : Fin 2) (h : Fin 8) (i : Fin 128) :
    mR m s (ix4 b h i 0) = max (m (ix4 b h i 0)) (Finset.univ.fold max (Ideal.ofBits .f32 0xFF800000#32) fun j : Fin 1024 => s (ix4 b h i j)) := by
  pointwise [mR]
theorem aR_apply (m m' : FVec Ideal S2x8x128x1 .f32) (b : Fin 2) (h : Fin 8) (i : Fin 128) :
    aR m m' (ix4 b h i 0) = Ideal.exp (m (ix4 b h i 0) - m' (ix4 b h i 0)) := by
  pointwise [aR]
theorem pR_apply (s : FVec Ideal S2x8x128x1024 .f32) (m' : FVec Ideal S2x8x128x1 .f32) (b : Fin 2) (h : Fin 8) (i : Fin 128) (j : Fin 1024) :
    pR s m' (ix4 b h i j) = Ideal.exp (s (ix4 b h i j) - m' (ix4 b h i 0)) := by
  pointwise [pR]
theorem lR_apply (l a : FVec Ideal S2x8x128x1 .f32) (p : FVec Ideal S2x8x128x1024 .f32) (b : Fin 2) (h : Fin 8) (i : Fin 128) :
    lR l a p (ix4 b h i 0) = l (ix4 b h i 0) * a (ix4 b h i 0) + ∑ j : Fin 1024, p (ix4 b h i j) := by
  pointwise [lR]
theorem tR_apply (a : FVec Ideal S2x8x128x1 .f32) (b : Fin 2) (i : Fin 128) (h : Fin 8) (d : Fin 64) :
    tR a (ix4 b i h d) = a (ix4 b h i 0) := by
  pointwise [tR]
theorem oR_apply (o : FVec Ideal S2x128x8x64 .f32) (a : FVec Ideal S2x8x128x1 .f32) (p : FVec Ideal S2x8x128x1024 .f32)
    (v : FVec Ideal S2x1024x8x64 .f32) (b : Fin 2) (i : Fin 128) (h : Fin 8) (d : Fin 64) :
    oR o a p v (ix4 b i h d) = o (ix4 b i h d) * a (ix4 b h i 0) + ∑ j : Fin 1024, v (ix4 b j h d) * p (ix4 b h i j) := by
  pointwise [oR, tR]
theorem attR_apply (σ : St) (b : Fin 2) (i : Fin 128) (h : Fin 8) (d : Fin 64) :
    attR σ (ix4 b i h d) = Ideal.div (σ.o (ix4 b i h d)) (σ.l (ix4 b h i 0)) := by
  pointwise [attR, tR]
theorem finR_apply (a : FVec Ideal S2x128x8x64 .f32) (w : FVec Ideal S512x512 .bf16) (b : Fin 2) (i : Fin 128) (n : Fin 512) :
    finR a w (ix3 b i n) = ∑ r : Fin 512, a (ix4 b i ⟨r.val / 64, by omega⟩ ⟨r.val % 64, by omega⟩) * w (ix2 r n) := by
  pointwise [finR]

end Cert.XAttn.Ref

end
-- ==== Proof.RefSum.lean ====
/-
# The reference's quotient, as two sums over all keys
-/
module

public import proofs.«01_k».proof.Proof.RefValue

@[expose] public section

noncomputable section

namespace Cert.XAttn

open Idealize.ShloMosaic

theorem ofBits_eighth : Ideal.ofBits .f32 0x3E000000#32 = ((1 / 8 : ℝ) : EReal) := by
  simp [Ideal.ofBits, Ideal.ieee, -EReal.coe_mul]; norm_num
theorem ofBits_bot : Ideal.ofBits .f32 0xFF800000#32 = ⊥ := by simp [Ideal.ofBits, Ideal.ieee]
theorem ofBits_unit : Ideal.ofBits .f32 0x3F800000#32 = 1 := by
  simp [Ideal.ofBits, Ideal.ieee, -EReal.coe_mul]; norm_num

/-- A sum cut in equal parts. -/
theorem sum_parts {M : Type} [AddCommMonoid M] (a b : ℕ) {c : ℕ} (hc : a * b = c) (f : Fin c → M)
    (hb : ∀ (i : Fin a) (j : Fin b), b * i.val + j.val < c) :
    ∑ i : Fin a, ∑ j : Fin b, f ⟨b * i.val + j.val, hb i j⟩ = ∑ n : Fin c, f n := by
  subst hc
  rw [← Fintype.sum_prod_type' (f := fun (i : Fin a) (j : Fin b) => f ⟨b * i.val + j.val, hb i j⟩)]
  refine Fintype.sum_equiv finProdFinEquiv _ _ fun p => congrArg f (Fin.ext ?_)
  exact add_comm (b * p.1.val) p.2.val

end Cert.XAttn

namespace Cert.XAttn.Ref

open Cert.ReferenceIdeal Cert.ReferenceIdeal.Gen
open Idealize.ShloMosaic Idealize.ShloMosaic.TcCoe Idealize.SL.Sem

variable (q : FVec Ideal S2x128x8x64 .f32) (k v : FVec Ideal S2x4096x8x64 .f32)
variable (b : Fin 2) (h : Fin 8) (i : Fin 128) (d : Fin 64)

/-- What a state says about one head of one query and one column of the values. -/
def StandsAt (E : ℝ) (N : EReal) (σ : St) : Prop :=
  Stands E N (σ.m (ix4 b h i 0)) (σ.l (ix4 b h i 0)) (σ.o (ix4 b i h d))

theorem start_at : StandsAt b h i d 0 0 st0 := by
  have hm : st0.m (ix4 b h i 0) = ⊥ := by
    have : st0.m (ix4 b h i 0) = Ideal.ofBits .f32 0xFF800000#32 := by unfold st0; pointwise
    rw [this, ofBits_bot]
  have hl : st0.l (ix4 b h i 0) = 0 := by unfold st0; pointwise
  have ho : st0.o (ix4 b i h d) = 0 := by unfold st0; pointwise
  unfold StandsAt
  rw [hm, hl, ho]
  exact stands_start

theorem step_at (t : Fin 4) (σ : St) (s : Fin 1024 → ℝ) (hs : ∀ j, sR q (chR t k) (ix4 b h i j) = s j) {E : ℝ} {N : EReal}
    (hσ : StandsAt b h i d E N σ) :
    StandsAt b h i d (E + ∑ j, Real.exp (s j)) (N + ∑ j, chR t v (ix4 b j h d) * (Real.exp (s j) : ℝ)) (step q k v t σ) := by
  unfold StandsAt step
  dsimp only
  rw [lR_apply, oR_apply, aR_apply]
  simp only [pR_apply, hs]
  refine stands_step (n := 1023) hσ s _ ?_
  rw [mR_apply, ofBits_bot]
  simp only [hs]

/-- The quotient at the end, when every score is a real. -/
theorem att_at (sc : Fin 4096 → ℝ)
    (hs : ∀ n, (∑ e : Fin 64, q (ix4 b i h e) * k (ix4 b n h e)) * ((1 / 8 : ℝ) : EReal) = sc n) :
    attR (endSt q k v) (ix4 b i h d)
      = (∑ n, v (ix4 b n h d) * (Real.exp (sc n) : ℝ)) * (((∑ n, Real.exp (sc n))⁻¹ : ℝ) : EReal) := by
  have hlt : ∀ (t : Fin 4) (j : Fin 1024), 1024 * t.val + j.val < 4096 := fun t j => by have := t.isLt; have := j.isLt; omega
  have hs' : ∀ (t : Fin 4) (j : Fin 1024), sR q (chR t k) (ix4 b h i j) = sc ⟨1024 * t.val + j.val, hlt t j⟩ := fun t j => by
    rw [sR_apply, ofBits_eighth, ← hs]
    simp only [chR_apply]
  have h4 := step_at q k v b h i d 3 _ _ (hs' 3) (step_at q k v b h i d 2 _ _ (hs' 2)
    (step_at q k v b h i d 1 _ _ (hs' 1) (step_at q k v b h i d 0 _ _ (hs' 0) (start_at b h i d))))
  have hE := sum_parts 4 1024 rfl (fun n => Real.exp (sc n)) hlt
  have hN := sum_parts 4 1024 rfl (fun n => v (ix4 b n h d) * ((Real.exp (sc n) : ℝ) : EReal)) hlt
  rw [Fin.sum_univ_four] at hE hN
  simp only [chR_apply, zero_add] at h4
  rw [hE, hN] at h4
  rw [attR_apply]
  exact stands_div h4 (Finset.sum_pos (fun n _ => Real.exp_pos _) ⟨0, Finset.mem_univ _⟩)

end Cert.XAttn.Ref

end
-- ==== Proof.Value.lean ====
/-
# The result is the reference's

With finite queries, query weights and keys every score is a real number; each stream's sums over all devices are then
sums over all keys, and the kernel's result rows are the reference's.
-/
module

public import proofs.«01_k».proof.Proof.Exchange
public import proofs.«01_k».proof.Proof.Arrays
public import proofs.«01_k».proof.Proof.RefSum

@[expose] public section

noncomputable section

namespace Cert.XAttn

open Cert.KernelIdeal Cert.KernelIdeal.Gen
open Idealize.ShloMosaic Idealize.ShloMosaic.TcCoe
open Idealize.SL.Sem

/-! ## One device's sums -/

section Local

variable (m : (ℓ : Loc nD τ sig) → Buf (Elt Ideal) ℓ) (c : Dev nD)
variable (x : FVec Ideal S2x128x512 .bf16) (w : FVec Ideal S512x512 .bf16) (k v : FVec Ideal S2x128x2x64 .bf16)

/-- The score of a local key. -/
def scL (b : Fin 2) (h : Fin 8) (i j : Fin 128) : EReal :=
  ∑ e : Fin 64, k (ix4 b j ⟨h.val / 4, by omega⟩ e)
    * ((∑ a : Fin 512, x (ix3 b i a) * w (ix2 a ⟨64 * h.val + e.val, by omega⟩)) * ((1 / 8 : ℝ) : EReal))

theorem qv_apply (hx : m ((c : Thread nD τ).loc main_arg0) = x) (hw : m ((c : Thread nD τ).loc main_arg1) = w) (b : Fin 2) (i : Fin 128) (n : Fin 512) :
    qv (F := Ideal) m c b (ix2 i n) = (∑ a : Fin 512, x (ix3 b i a) * w (ix2 a n)) * ((1 / 8 : ℝ) : EReal) := by
  unfold qv
  rw [xv_eq, wqv_eq, hx, hw, readW, qAll_apply, ofBits_eighth]
  exact congrArg (· * _) (Finset.sum_congr rfl fun a _ => congrArg (· * _) (readX x b i a))

theorem kkv_apply (hk : m ((c : Thread nD τ).loc main_arg2) = k) (b h : Fin 2) (j : Fin 128) (e : Fin 64) :
    kkv (F := Ideal) m c b h (ix4 0 j 0 e) = k (ix4 b j h e) := by
  unfold kkv
  rw [kv_eq, hk, readK]
theorem vvv_apply (hv : m ((c : Thread nD τ).loc main_arg3) = v) (b h : Fin 2) (j : Fin 128) (e : Fin 64) :
    vvv (F := Ideal) m c b h (ix4 0 j 0 e) = v (ix4 b j h e) := by
  unfold vvv
  rw [vv_eq, hv, readV]

theorem head_eq (h : Fin 8) : Fin.ofNat 8 (2 * (h.val / 2) + h.val % 2) = h := Fin.ext (by simp [Fin.ofNat]; omega)
theorem group_eq (h : Fin 8) : Fin.ofNat 2 (h.val / 2 / 2) = (⟨h.val / 4, by omega⟩ : Fin 2) := Fin.ext (by simp [Fin.ofNat]; omega)

theorem p_apply (hx : m ((c : Thread nD τ).loc main_arg0) = x) (hw : m ((c : Thread nD τ).loc main_arg1) = w)
    (hk : m ((c : Thread nD τ).loc main_arg2) = k) (b : Fin 2) (h : Fin 8) (i j : Fin 128) :
    pMat (F := Ideal) (qv m c b) h (kkv m c b ⟨h.val / 4, by omega⟩) (ix2 j i) = Ideal.exp (scL x w k b h i j) := by
  rw [pMat_apply]
  simp only [kkv_apply m c k hk, qv_apply m c x w hx hw]
  rfl

theorem num_apply (hx : m ((c : Thread nD τ).loc main_arg0) = x) (hw : m ((c : Thread nD τ).loc main_arg1) = w)
    (hk : m ((c : Thread nD τ).loc main_arg2) = k) (hv : m ((c : Thread nD τ).loc main_arg3) = v) (b : Fin 2) (h : Fin 8) (d : Fin 64) (i : Fin 128) :
    numV (F := Ideal) m c b (h.val / 2) ⟨h.val % 2, by omega⟩ (ix4 0 0 d i)
      = ∑ j : Fin 128, v (ix4 b j ⟨h.val / 4, by omega⟩ d) * Ideal.exp (scL x w k b h i j) := by
  unfold numV
  dsimp only
  rw [head_eq, group_eq, numP_apply]
  simp only [p_apply m c x w k hx hw hk, vvv_apply m c v hv]

theorem lin_apply (hx : m ((c : Thread nD τ).loc main_arg0) = x) (hw : m ((c : Thread nD τ).loc main_arg1) = w)
    (hk : m ((c : Thread nD τ).loc main_arg2) = k) (b : Fin 2) (h : Fin 8) (i : Fin 128) :
    linV (F := Ideal) m c b (h.val / 2) ⟨h.val % 2, by omega⟩ (ix2 0 i) = ∑ j : Fin 128, Ideal.exp (scL x w k b h i j) := by
  unfold linV
  dsimp only
  rw [head_eq, group_eq, lRow_apply]
  simp only [p_apply m c x w k hx hw hk]

theorem rowsV_num (n : Fin 2 → FVec Ideal S1x1x64x128 .bf16) (dn : FVec Ideal S1x1x16x128 .bf16) (j : Fin 2) (d : Fin 64) (i : Fin 128) :
    rowsV (F := Ideal) (n 0) (n 1) dn (ix2 ⟨64 * j.val + d.val, by omega⟩ i) = n j (ix4 0 0 d i) := by
  have hd := d.isLt
  fin_cases j
  · refine (dif_pos (show 64 * 0 + d.val < 64 by omega)).trans ?_
    exact congrArg (fun y => n 0 (ix4 0 0 y i)) (Fin.ext (show 64 * 0 + d.val = d.val by omega))
  · refine (dif_neg (show ¬ 64 * 1 + d.val < 64 by omega)).trans ((dif_pos (show 64 * 1 + d.val < 128 by omega)).trans ?_)
    exact congrArg (fun y => n 1 (ix4 0 0 y i)) (Fin.ext (show 64 * 1 + d.val - 64 = d.val by omega))

theorem rowsV_den (n : Fin 2 → FVec Ideal S1x1x64x128 .bf16) (dn : Fin 2 → FVec Ideal S1x128 .f32) (j : Fin 2) (i : Fin 128) :
    rowsV (F := Ideal) (n 0) (n 1) (denP (dn 0) (dn 1)) (ix2 ⟨128 + j.val, by omega⟩ i) = dn j (ix2 0 i) := by
  fin_cases j
  · exact (denP_apply (dn 0) (dn 1) i).1
  · exact (denP_apply (dn 0) (dn 1) i).2

/-- The stream of a head. -/
def strm (b : Fin 2) (h : Fin 8) : Fin 8 := Fin.ofNat 8 (4 * b.val + h.val / 2)

theorem locV_strm (b : Fin 2) (h : Fin 8) : locV (F := Ideal) m c (strm b h) = locBG m c b (h.val / 2) := by
  unfold locV strm
  have h1 : Fin.ofNat 2 ((Fin.ofNat 8 (4 * b.val + h.val / 2)).val / 4) = b := Fin.ext (by simp [Fin.ofNat]; omega)
  have h2 : (Fin.ofNat 8 (4 * b.val + h.val / 2)).val % 4 = h.val / 2 := by simp [Fin.ofNat]; omega
  rw [h1, h2]

end Local

/-! ## All devices' sums -/

section Whole

variable (m : (ℓ : Loc nD τ sig) → Buf (Elt Ideal) ℓ)
variable (x : FVec Ideal S2x128x512 .bf16) (w : FVec Ideal S512x512 .bf16) (k v : FVec Ideal ⟨4, ![2, 4096, 2, 64]⟩ .bf16) (wo : FVec Ideal S512x512 .bf16)

/-- The arrays every device holds: two whole, the keys and values in blocks. -/
structure Held : Prop where
  hx : ∀ c : Dev nD, m ((c : Thread nD τ).loc main_arg0) = x
  hw : ∀ c : Dev nD, m ((c : Thread nD τ).loc main_arg1) = w
  hk : ∀ c : Dev nD, m ((c : Thread nD τ).loc main_arg2) = Layout.block ⟨4, ![2, 128, 2, 64]⟩ ⟨4, ![2, 4096, 2, 64]⟩ 1 32 c k
  hv : ∀ c : Dev nD, m ((c : Thread nD τ).loc main_arg3) = Layout.block ⟨4, ![2, 128, 2, 64]⟩ ⟨4, ![2, 4096, 2, 64]⟩ 1 32 c v
  ho : ∀ c : Dev nD, m ((c : Thread nD τ).loc main_arg4) = wo

theorem key_lt (c : Dev nD) (j : Fin 128) : 128 * c.val + j.val < 4096 := by
  have : c.val < 32 := c.isLt
  have := j.isLt
  omega

theorem block_apply' (f : FVec Ideal ⟨4, ![2, 4096, 2, 64]⟩ .bf16) (c : Dev nD) (b : Fin 2) (j : Fin 128) (g : Fin 2) (e : Fin 64) :
    (Layout.block ⟨4, ![2, 128, 2, 64]⟩ ⟨4, ![2, 4096, 2, 64]⟩ 1 32 c f) (ix4 b j g e) = f (ix4 b ⟨128 * c.val + j.val, key_lt c j⟩ g e) := by
  rw [Layout.block_apply]
  refine congrArg f (funext fun a => Fin.ext ?_)
  fin_cases a
  · rfl
  · exact show c.val * 128 + j.val = 128 * c.val + j.val by omega
  · rfl
  · rfl

variable (xr : S2x128x512.Idx → ℝ) (wr : S512x512.Idx → ℝ) (kr : (⟨4, ![2, 4096, 2, 64]⟩ : Shape).Idx → ℝ)

/-- The score of a key, a real number. -/
def scR (b : Fin 2) (h : Fin 8) (i : Fin 128) (n : Fin 4096) : ℝ :=
  ∑ e : Fin 64, kr (ix4 b n ⟨h.val / 4, by omega⟩ e)
    * ((∑ a : Fin 512, xr (ix3 b i a) * wr (ix2 a ⟨64 * h.val + e.val, by omega⟩)) * (1 / 8))

variable (ex : ∀ y, x y = (xr y : EReal)) (ew : ∀ y, w y = (wr y : EReal)) (ek : ∀ y, k y = (kr y : EReal))
include ex ew ek

theorem scL_real (b : Fin 2) (h : Fin 8) (i : Fin 128) (c : Dev nD) (j : Fin 128) :
    scL x w (Layout.block ⟨4, ![2, 128, 2, 64]⟩ ⟨4, ![2, 4096, 2, 64]⟩ 1 32 c k) b h i j = (scR xr wr kr b h i ⟨128 * c.val + j.val, key_lt c j⟩ : EReal) := by
  unfold scL scR
  simp only [block_apply', ex, ew, ek, coe_sum, EReal.coe_mul]

/-- The reference's score of a key. -/
theorem scQ_real (b : Fin 2) (h : Fin 8) (i : Fin 128) (n : Fin 4096) :
    (∑ e : Fin 64, Ref.qR x w (ix4 b i h e) * Ref.kR k (ix4 b n h e)) * ((1 / 8 : ℝ) : EReal) = (scR xr wr kr b h i n : EReal) := by
  have hi : ∀ e : Fin 64, (⟨h.val * 64 + e.val, by omega⟩ : Fin 512) = ⟨64 * h.val + e.val, by omega⟩ := fun e => Fin.ext (by dsimp only; omega)
  simp only [Ref.qR_apply, Ref.kR_apply, hi, ex, ew, ek]
  simp only [← EReal.coe_mul, ← coe_sum]
  refine congrArg _ ?_
  unfold scR
  rw [Finset.sum_mul]
  exact Finset.sum_congr rfl fun e _ => by ring

variable (H : Held m x w k v wo)
include H

theorem num_all (b : Fin 2) (h : Fin 8) (d : Fin 64) (i : Fin 128) (c : Dev nD) :
    (stv (F := Ideal) m (strm b h) 5 c (ix2 ⟨64 * (h.val % 2) + d.val, by omega⟩ i) : EReal)
      = ∑ n : Fin 4096, v (ix4 b n ⟨h.val / 4, by omega⟩ d) * (Real.exp (scR xr wr kr b h i n) : ℝ) := by
  rw [stv_all, ← sum_parts 32 128 rfl (fun n => v (ix4 b n ⟨h.val / 4, by omega⟩ d) * ((Real.exp (scR xr wr kr b h i n) : ℝ) : EReal)) key_lt]
  refine Finset.sum_congr rfl fun c' _ => ?_
  rw [locV_strm]
  refine (rowsV_num (fun j => numV (F := Ideal) m c' b (h.val / 2) j) _ ⟨h.val % 2, by omega⟩ d i).trans ?_
  rw [num_apply m c' x w _ _ (H.hx c') (H.hw c') (H.hk c') (H.hv c') b h d i]
  refine Finset.sum_congr rfl fun j _ => ?_
  rw [block_apply', scL_real x w k xr wr kr ex ew ek, exp_coe]

theorem den_all (b : Fin 2) (h : Fin 8) (i : Fin 128) (c : Dev nD) :
    (stv (F := Ideal) m (strm b h) 5 c (ix2 ⟨128 + h.val % 2, by omega⟩ i) : EReal)
      = ((∑ n : Fin 4096, Real.exp (scR xr wr kr b h i n) : ℝ) : EReal) := by
  rw [stv_all, coe_sum, ← sum_parts 32 128 rfl (fun n => ((Real.exp (scR xr wr kr b h i n) : ℝ) : EReal)) key_lt]
  refine Finset.sum_congr rfl fun c' _ => ?_
  rw [locV_strm]
  refine (rowsV_den (fun j => numV (F := Ideal) m c' b (h.val / 2) j) (fun j => linV (F := Ideal) m c' b (h.val / 2) j) ⟨h.val % 2, by omega⟩ i).trans ?_
  rw [lin_apply m c' x w _ (H.hx c') (H.hw c') (H.hk c') b h i]
  refine Finset.sum_congr rfl fun j _ => ?_
  rw [scL_real x w k xr wr kr ex ew ek, exp_coe]

/-- One head's weighted mean, on any device. -/
theorem att_all (b : Fin 2) (h : Fin 8) (d : Fin 64) (i : Fin 128) (c : Dev nD) :
    (attV (F := Ideal) (stv m (strm b h) 5 c) ⟨h.val % 2, by omega⟩ (ix2 d i) : EReal)
      = Ref.attR (Ref.endSt (Ref.qR x w) (Ref.kR k) (Ref.kR v)) (ix4 b i h d) := by
  have hE : (0 : ℝ) < ∑ n : Fin 4096, Real.exp (scR xr wr kr b h i n) := Finset.sum_pos (fun n _ => Real.exp_pos _) ⟨0, Finset.mem_univ _⟩
  rw [attV_apply, num_all m x w k v wo xr wr kr ex ew ek H, den_all m x w k v wo xr wr kr ex ew ek H, div_coe _ hE.ne', ofBits_unit, one_mul,
    Ref.att_at (Ref.qR x w) (Ref.kR k) (Ref.kR v) b h i d (scR xr wr kr b h i) (scQ_real x w k xr wr kr ex ew ek b h i)]
  simp only [Ref.kR_apply]

/-- The result array on every device is the reference's. -/
theorem out_all (c : Dev nD) :
    outAt (F := Ideal) m c = Ref.finR (Ref.attR (Ref.endSt (Ref.qR x w) (Ref.kR k) (Ref.kR v))) wo := by
  funext y
  obtain ⟨b, i, n, rfl⟩ : ∃ b i n, y = ix3 b i n := ⟨y 0, y 1, y 2, by ext a; fin_cases a <;> rfl⟩
  suffices key : outB (F := Ideal) m c b (ix3 0 i n) = Ref.finR (Ref.attR (Ref.endSt (Ref.qR x w) (Ref.kR k) (Ref.kR v))) wo (ix3 b i n) from key
  rw [Ref.finR_apply]
  unfold outB
  rw [wov_eq, H.ho c, readWo, outV_apply]
  refine Finset.sum_congr rfl fun r _ => congrArg (· * wo (ix2 r n)) ?_
  rw [catV_row _ r ⟨r.val % 64, by omega⟩ i ⟨r.val / 64, by omega⟩ (by dsimp only; omega)]
  rw [← att_all m x w k v wo xr wr kr ex ew ek H b ⟨r.val / 64, by omega⟩ ⟨r.val % 64, by omega⟩ i c]
  have hs : ∀ h : Fin 8, (![stv (F := Ideal) m (Fin.ofNat 8 (4 * b.val)) 5 c, stv (F := Ideal) m (Fin.ofNat 8 (4 * b.val + 1)) 5 c,
      stv (F := Ideal) m (Fin.ofNat 8 (4 * b.val + 2)) 5 c, stv (F := Ideal) m (Fin.ofNat 8 (4 * b.val + 3)) 5 c] ⟨h.val / 2, by omega⟩) = stv m (strm b h) 5 c := fun h => by
    fin_cases h <;> rfl
  exact congrArg (fun a => attV (F := Ideal) a ⟨r.val / 64 % 2, by omega⟩ (ix2 ⟨r.val % 64, by omega⟩ i)) (hs ⟨r.val / 64, by omega⟩)

end Whole

end Cert.XAttn

end
-- ==== Proof.Finite.lean ====
/-
# Finite arguments are real numbers

The precondition says of each device's queries, query weights and keys that their absolute values are below infinity.
-/
module

public import proofs.«01_k».proof.Defs
public import proofs.«01_k».proof.Proof.Value

@[expose] public section

noncomputable section

namespace Cert.XAttn

open Idealize.ShloMosaic Idealize.ShloMosaic.TcCoe

theorem pre_facts_kernel : Cert.Pre_finite_KernelIdeal.Facts :=
  ⟨by decide, by decide, by decide⟩
theorem pre_facts_reference : Cert.Pre_finite_ReferenceIdeal.Facts :=
  ⟨by decide, by decide, by decide⟩

theorem real_of_lt {y : EReal} (h : max y (-y) < ⊤) : ∃ r : ℝ, y = r := by
  induction y with
  | bot => simp at h
  | top => simp at h
  | coe r => exact ⟨r, rfl⟩

theorem ofBits_top : Ideal.ofBits .bf16 0x7F80#16 = ⊤ := by simp [Ideal.ofBits, Ideal.ieee]

/-- An array whose absolute values are below infinity. -/
theorem real_of_finite {s s0 : Shape} (X : FVec Ideal s .bf16) (dims : Fin s0.rank → Fin s.rank) (hb : s0.BroadcastsInDim s dims)
    (h : cmpf .olt (Host.absf X) (broadcastInDim s dims hb (constant (F := Ideal) s0 .bf16 0x7F80#16)) = fun _ => 1#1) :
    ∀ y, ∃ r : ℝ, X y = (r : EReal) := fun y => by
  have h1 : Ideal.cmp .olt (max (X y) (-(X y))) (Ideal.ofBits .bf16 0x7F80#16) = 1#1 := congrFun h y
  rw [ofBits_top] at h1
  refine real_of_lt (y := X y) ?_
  by_contra hn
  have : Ideal.cmp .olt (max (X y) (-(X y))) ⊤ = 0#1 := by simp only [Ideal.cmp]; rw [decide_eq_false hn]; rfl
  rw [this] at h1
  exact absurd h1 (by decide)

/-- Every entry of an array cut over the devices lies on some device. -/
theorem real_of_blocks (k : FVec Ideal ⟨4, ![2, 4096, 2, 64]⟩ .bf16)
    (h : ∀ (c : Dev Cert.KernelIdeal.nD) (y : (⟨4, ![2, 128, 2, 64]⟩ : Shape).Idx), ∃ r : ℝ,
      (Layout.block ⟨4, ![2, 128, 2, 64]⟩ ⟨4, ![2, 4096, 2, 64]⟩ 1 32 c k) y = (r : EReal)) :
    ∀ y, ∃ r : ℝ, k y = (r : EReal) := fun y => by
  obtain ⟨b, n, g, e, rfl⟩ : ∃ (b : Fin 2) (n : Fin 4096) (g : Fin 2) (e : Fin 64), y = ix4 b n g e :=
    ⟨y 0, y 1, y 2, y 3, by ext a; fin_cases a <;> rfl⟩
  obtain ⟨r, hr⟩ := h ⟨n.val / 128, by have := n.isLt; show n.val / 128 < 32; omega⟩ (ix4 b ⟨n.val % 128, by omega⟩ g e)
  refine ⟨r, ?_⟩
  rw [← hr, block_apply']
  exact congrArg (fun n => k (ix4 b n g e)) (Fin.ext (by show n.val = 128 * (n.val / 128) + n.val % 128; omega))

end Cert.XAttn

end
-- ==== Proof.lean ====
/-
# Every claim of this certificate, put together
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Finite
public import Idealize.ShloMosaic.Adequacy
public import Idealize.ShloMosaic.Init
public import Idealize.ShloMosaic.Lib.Quiescent

@[expose] public section

set_option maxRecDepth 40000

noncomputable section

namespace Cert.Proof

open Idealize.ShloMosaic Idealize.SL.Sem Cert.Kernel

/-! ## The two prints of the kernel are one program -/

theorem defs₀_eq {F : FTy → Type} [FloatOps F] : Cert.Kernel.defs₀ (F := F) = Cert.KernelIdeal.defs₀ (F := F) :=
  congrArg Defs.onTc (funext fun l => funext fun x => match l, x with
    | 0, (t, s) => rfl
    | ⟨_ + 1, h⟩, _ => absurd h (Nat.not_lt.2 (Nat.le_add_left _ _)))

theorem defs_eq {F : FTy → Type} [FloatOps F] : Cert.Kernel.defs (F := F) = Cert.KernelIdeal.defs (F := F) :=
  congrArg (Pipeline.defs Cert.KernelIdeal.pcfgs) defs₀_eq

theorem frame_kernel : Cert.quiescent_Kernel (hKernel := Cert.Kernel.Gen.facts) := fun m ρ _ =>
  Eq.mpr (congrArg (fun D => θ_run D (onTc (τ := Cert.Kernel.τ) (Cert.Kernel.main (F := Bits))) ⟨m, fun _ => 0, ρ⟩ _) (defs_eq (F := Bits)))
    (Cert.XAttn.frame_run (F := Bits) m ρ)

theorem frame_ideal : Cert.quiescent_KernelIdeal (hKernelIdeal := Cert.KernelIdeal.Gen.facts) := fun m ρ _ =>
  Cert.XAttn.frame_run (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

theorem frame_ideal_pre : Cert.quiescent_KernelIdeal_pre_finite_KernelIdeal (hKernelIdeal := Cert.KernelIdeal.Gen.facts)
    (hPre_finite_KernelIdeal := Cert.XAttn.pre_facts_kernel) := fun m ρ _ => frame_ideal m ρ trivial

theorem frame_reference_pre : Cert.quiescent_ReferenceIdeal_pre_finite_ReferenceIdeal (hReferenceIdeal := Cert.ReferenceIdeal.Gen.facts)
    (hPre_finite_ReferenceIdeal := Cert.XAttn.pre_facts_reference) := fun m ρ _ => frame_reference m ρ trivial

/-! ## The value -/

theorem value : Cert.algebraic_KernelIdeal_ReferenceIdeal_pre_finite_KernelIdeal (hKernelIdeal := Cert.KernelIdeal.Gen.facts)
    (hReferenceIdeal := Cert.ReferenceIdeal.Gen.facts) (hPre_finite_KernelIdeal := Cert.XAttn.pre_facts_kernel) := by
  intro m ρ m' ρ' hpre hag
  have H : Cert.XAttn.Held m _ _ _ _ _ := ⟨fun c => (hag c).1, fun c => (hag c).2.1, fun c => (hag c).2.2.1, fun c => (hag c).2.2.2.1, fun c => (hag c).2.2.2.2⟩
  have fx := Cert.XAttn.real_of_finite _ _ _ (hpre 0).1
  have fw := Cert.XAttn.real_of_finite _ _ _ (hpre 0).2.1
  have fk := fun c => Cert.XAttn.real_of_finite _ _ _ (hpre c).2.2
  rw [(hag 0).1] at fx
  rw [(hag 0).2.1] at fw
  have fk' := Cert.XAttn.real_of_blocks _ fun c => by
    have := fk c
    rw [(hag c).2.2.1] at this
    exact this
  choose xr ex using fx
  choose wr ew using fw
  choose kr ek using fk'
  refine ⟨Cert.ReferenceIdeal.Value.res_main_v110 (F := Ideal) m' 0, ?_, ?_⟩
  · refine (θ_run Cert.KernelIdeal.defs _ _).mono (fun r h c => ⟨?_, Cert.XAttn.args_kept (F := Ideal) m h.1 c⟩) (Cert.XAttn.run_main (F := Ideal) m ρ)
    refine (h.1 c 5).trans ((Cert.XAttn.finalA_out m c).trans ?_)
    rw [Cert.XAttn.Ref.res_eq]
    exact Cert.XAttn.out_all m _ _ _ _ _ xr wr kr ex ew ek H c
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  Cert.XAttn.pre_facts_kernel, Cert.XAttn.pre_facts_reference,
  frame_kernel, frame_ideal, frame_ideal_pre, frame_reference, frame_reference_pre, trivial, value⟩

end Cert.Proof

end
